-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  IdealRules.named_const.Statement Cert.KernelIdeal.κ "inv_two_pi" .f32 0x3E22F983#32 ((2097152 / 13176795 : ℝ) : EReal)
  ∧ IdealRules.named_const.Statement Cert.KernelIdeal.κ "head_scale" .f32 0x3D3504F3#32 ((524288 / 11863283 : ℝ) : EReal)
  ∧ IdealRules.named_const.Statement Cert.KernelIdeal.κ "inv_sqrt_p" .f32 0x3E3504F3#32 ((2097152 / 11863283 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v704) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x256 : Shape := ⟨3, ![2, 2048, 256]⟩
abbrev S16384x32 : Shape := ⟨2, ![16384, 32]⟩
abbrev S256x256 : Shape := ⟨2, ![256, 256]⟩
abbrev S256 : Shape := ⟨1, ![256]⟩
abbrev S4x128x288 : Shape := ⟨3, ![4, 128, 288]⟩
abbrev S4x128 : Shape := ⟨2, ![4, 128]⟩
abbrev S4x33x128 : Shape := ⟨3, ![4, 33, 128]⟩
abbrev S4x33 : Shape := ⟨2, ![4, 33]⟩
abbrev S32x256 : Shape := ⟨2, ![32, 256]⟩
abbrev S32 : Shape := ⟨1, ![32]⟩
abbrev S256x512 : Shape := ⟨2, ![256, 512]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg10 : FVec F S256x256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg11
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S2x2048x256 .f32) (main_arg1 : FVec F S16384x32 .f32) (main_arg2 : FVec F S256x256 .f32) (main_arg3 : FVec F S256 .f32) (main_arg4 : FVec F S4x128x288 .f32) (main_arg5 : FVec F S4x128 .f32) (main_arg6 : FVec F S4x33x128 .f32) (main_arg7 : FVec F S4x33 .f32) (main_arg8 : FVec F S32x256 .f32) (main_arg9 : FVec F S32 .f32) (main_arg10 : FVec F S256x256 .f32) (main_arg11 : FVec F S256 .f32) (main_arg12 : FVec F S256x256 .f32) (main_arg13 : FVec F S256 .f32) (main_arg14 : FVec F S256x512 .f32) (main_arg15 : FVec F S256 .f32) (main_arg16 : FVec F S32x256 .f32) (main_arg17 : FVec F S32 .f32) (main_arg18 : FVec F S128x256 .f32) (main_arg19 : FVec F S128 .f32) (main_arg20 : FVec F S1x128 .f32) (main_arg21 : FVec F S1 .f32) (main_arg22 : FVec F S256 .f32) (main_arg23 : FVec F S256 .f32) (main_arg24 : FVec F S256x256 .f32) (main_arg25 : FVec F S256 .f32) : IVec S_ 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_v13 main_v16
-- ==== Kernel.lean ====
abbrev S2x2048x256 : Shape := ⟨3, ![2, 2048, 256]⟩
abbrev S16384x32 : Shape := ⟨2, ![16384, 32]⟩
abbrev S256x256 : Shape := ⟨2, ![256, 256]⟩
abbrev S256 : Shape := ⟨1, ![256]⟩
abbrev S4x128x288 : Shape := ⟨3, ![4, 128, 288]⟩
abbrev S4x128 : Shape := ⟨2, ![4, 128]⟩
abbrev S4x33x128 : Shape := ⟨3, ![4, 33, 128]⟩
abbrev S4x33 : Shape := ⟨2, ![4, 33]⟩
abbrev S32x256 : Shape := ⟨2, ![32, 256]⟩
abbrev S32 : Shape := ⟨1, ![32]⟩
abbrev S256x512 : Shape := ⟨2, ![256, 512]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2048x32 : Shape := ⟨2, ![2048, 32]⟩
abbrev S1x256 : Shape := ⟨2, ![1, 256]⟩
abbrev S1x32 : Shape := ⟨2, ![1, 32]⟩
abbrev S1x1 : Shape := ⟨2, ![1, 1]⟩
abbrev S1x512x256 : Shape := ⟨3, ![1, 512, 256]⟩
abbrev S512x32 : Shape := ⟨2, ![512, 32]⟩
abbrev S64x256 : Shape := ⟨2, ![64, 256]⟩
abbrev S512x512 : Shape := ⟨2, ![512, 512]⟩
abbrev S512x256 : Shape := ⟨2, ![512, 256]⟩
abbrev S512x64 : Shape := ⟨2, ![512, 64]⟩
abbrev S64x512 : Shape := ⟨2, ![64, 512]⟩
abbrev S512x288 : Shape := ⟨2, ![512, 288]⟩
abbrev S1x128x288 : Shape := ⟨3, ![1, 128, 288]⟩
abbrev S128x288 : Shape := ⟨2, ![128, 288]⟩
abbrev S512x128 : Shape := ⟨2, ![512, 128]⟩
abbrev S1x32x128 : Shape := ⟨3, ![1, 32, 128]⟩
abbrev S32x128 : Shape := ⟨2, ![32, 128]⟩
abbrev S1x1x128 : Shape := ⟨3, ![1, 1, 128]⟩
abbrev S512 : Shape := ⟨1, ![512]⟩
abbrev S512x1 : Shape := ⟨2, ![512, 1]⟩
abbrev S512x4 : Shape := ⟨2, ![512, 4]⟩
abbrev S128x32 : Shape := ⟨2, ![128, 32]⟩

abbrev nBuf : Space → Nat
  | .hbm => 39
  | .vmem => 35
  | .smem => 1
  | _ => 0

abbrev bufTy : (tb : Table) → Fin (tcTables nBuf tb) → BufTy
  | .hbm, ⟨0, _⟩ => ⟨S2x2048x256, .f32⟩
  | .hbm, ⟨1, _⟩ => ⟨S16384x32, .f32⟩
  | .hbm, ⟨2, _⟩ => ⟨S256x256, .f32⟩
  | .hbm, ⟨3, _⟩ => ⟨S256, .f32⟩
  | .hbm, ⟨4, _⟩ => ⟨S4x128x288, .f32⟩
  | .hbm, ⟨5, _⟩ => ⟨S4x128, .f32⟩
  | .hbm, ⟨6, _⟩ => ⟨S4x33x128, .f32⟩
  | .hbm, ⟨7, _⟩ => ⟨S4x33, .f32⟩
  | .hbm, ⟨8, _⟩ => ⟨S32x256, .f32⟩
  | .hbm, ⟨9, _⟩ => ⟨S32, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x512, .f32⟩
  | .hbm, ⟨15, _⟩ => ⟨S256, .f32⟩
  | .hbm, ⟨16, _⟩ => ⟨S32x256, .f32⟩
  | .hbm, ⟨17, _⟩ => ⟨S32, .f32⟩
  | .hbm, ⟨18, _⟩ => ⟨S128x256, .f32⟩
  | .hbm, ⟨19, _⟩ => ⟨S128, .f32⟩
  | .hbm, ⟨20, _⟩ => ⟨S1x128, .f32⟩
  | .hbm, ⟨21, _⟩ => ⟨S1, .f32⟩
  | .hbm, ⟨22, _⟩ => ⟨S256, .f32⟩
  | .hbm, ⟨23, _⟩ => ⟨S256, .f32⟩
  | .hbm, ⟨24, _⟩ => ⟨S256x256, .f32⟩
  | .hbm, ⟨25, _⟩ => ⟨S256, .f32⟩
  | .hbm, ⟨26, _⟩ => ⟨S2048x32, .f32⟩
  | .hbm, ⟨27, _⟩ => ⟨S1x256, .f32⟩
  | .hbm, ⟨28, _⟩ => ⟨S1x32, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x32, .f32⟩
  | .hbm, ⟨33, _⟩ => ⟨S1x128, .f32⟩
  | .hbm, ⟨34, _⟩ => ⟨S1x1, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S2x2048x256, .f32⟩
  | .local _ .vmem, ⟨0, _⟩ => ⟨S1x512x256, .f32⟩
  | .local _ .vmem, ⟨1, _⟩ => ⟨S1x512x256, .f32⟩
  | .local _ .vmem, ⟨2, _⟩ => ⟨S512x32, .f32⟩
  | .local _ .vmem, ⟨3, _⟩ => ⟨S512x32, .f32⟩
  | .local _ .vmem, ⟨4, _⟩ => ⟨S256x256, .f32⟩
  | .local _ .vmem, ⟨5, _⟩ => ⟨S1x256, .f32⟩
  | .local _ .vmem, ⟨6, _⟩ => ⟨S4x128x288, .f32⟩
  | .local _ .vmem, ⟨7, _⟩ => ⟨S4x128, .f32⟩
  | .local _ .vmem, ⟨8, _⟩ => ⟨S4x33x128, .f32⟩
  | .local _ .vmem, ⟨9, _⟩ => ⟨S4x33, .f32⟩
  | .local _ .vmem, ⟨10, _⟩ => ⟨S32x256, .f32⟩
  | .local _ .vmem, ⟨11, _⟩ => ⟨S1x32, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S256x512, .f32⟩
  | .local _ .vmem, ⟨17, _⟩ => ⟨S1x256, .f32⟩
  | .local _ .vmem, ⟨18, _⟩ => ⟨S32x256, .f32⟩
  | .local _ .vmem, ⟨19, _⟩ => ⟨S1x32, .f32⟩
  | .local _ .vmem, ⟨20, _⟩ => ⟨S128x256, .f32⟩
  | .local _ .vmem, ⟨21, _⟩ => ⟨S1x128, .f32⟩
  | .local _ .vmem, ⟨22, _⟩ => ⟨S1x128, .f32⟩
  | .local _ .vmem, ⟨23, _⟩ => ⟨S1x1, .f32⟩
  | .local _ .vmem, ⟨24, _⟩ => ⟨S1x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S1x512x256, .f32⟩
  | .local _ .vmem, ⟨29, _⟩ => ⟨S1x512x256, .f32⟩
  | .local _ .vmem, ⟨30, _⟩ => ⟨S64x256, .f32⟩
  | .local _ .vmem, ⟨31, _⟩ => ⟨S64x256, .f32⟩
  | .local _ .vmem, ⟨32, _⟩ => ⟨S1x256, .f32⟩
  | .local _ .vmem, ⟨33, _⟩ => ⟨S1x1, .f32⟩
  | .local _ .vmem, ⟨34, _⟩ => ⟨S512x512, .f32⟩
  | .local _ .smem, ⟨0, _⟩ => ⟨S4x33, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem27_1 : DmaSem sig := 30

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x33x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x33 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S4x33 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S32x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S256x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 2 → Memref sig .tc .vmem S1x512x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== KernelIdeal.lean ====
variable {F : FTy → Type} [FloatOps F] [Named F]
def κ : String → Option EReal := fun
  | "head_scale" => some ((524288 / 11863283 : ℝ) : EReal)
  | "inv_sqrt_p" => some ((2097152 / 11863283 : ℝ) : EReal)
  | "inv_two_pi" => some ((2097152 / 13176795 : ℝ) : EReal)
  | _ => none
-- ==== ReferenceIdeal.lean ====
abbrev S2x2048x256 : Shape := ⟨3, ![2, 2048, 256]⟩
abbrev S16384x32 : Shape := ⟨2, ![16384, 32]⟩
abbrev S256x256 : Shape := ⟨2, ![256, 256]⟩
abbrev S256 : Shape := ⟨1, ![256]⟩
abbrev S4x128x288 : Shape := ⟨3, ![4, 128, 288]⟩
abbrev S4x128 : Shape := ⟨2, ![4, 128]⟩
abbrev S4x33x128 : Shape := ⟨3, ![4, 33, 128]⟩
abbrev S4x33 : Shape := ⟨2, ![4, 33]⟩
abbrev S32x256 : Shape := ⟨2, ![32, 256]⟩
abbrev S32 : Shape := ⟨1, ![32]⟩
abbrev S256x512 : Shape := ⟨2, ![256, 512]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2048x32 : Shape := ⟨2, ![2048, 32]⟩
abbrev S_ : Shape := ⟨0, ![]⟩
abbrev S1x1x256 : Shape := ⟨3, ![1, 1, 256]⟩
abbrev S1x2048x32x1 : Shape := ⟨4, ![1, 2048, 32, 1]⟩
abbrev S2x2048x1x256 : Shape := ⟨4, ![2, 2048, 1, 256]⟩
abbrev S2x2048x32x256 : Shape := ⟨4, ![2, 2048, 32, 256]⟩
abbrev S1x2048x32 : Shape := ⟨3, ![1, 2048, 32]⟩
abbrev S2x2048x32 : Shape := ⟨3, ![2, 2048, 32]⟩
abbrev S2x2048x288 : Shape := ⟨3, ![2, 2048, 288]⟩
abbrev S4x128x2x2048 : Shape := ⟨4, ![4, 128, 2, 2048]⟩
abbrev S2x4x2048x128 : Shape := ⟨4, ![2, 4, 2048, 128]⟩
abbrev S1x4x1x128 : Shape := ⟨4, ![1, 4, 1, 128]⟩
abbrev S4x33x2x2048 : Shape := ⟨4, ![4, 33, 2, 2048]⟩
abbrev S2x4x2048x33 : Shape := ⟨4, ![2, 4, 2048, 33]⟩
abbrev S1x4x1x33 : Shape := ⟨4, ![1, 4, 1, 33]⟩
abbrev S2x4x2048x32 : Shape := ⟨4, ![2, 4, 2048, 32]⟩
abbrev S2x4x2048x1 : Shape := ⟨4, ![2, 4, 2048, 1]⟩
abbrev S2x4x2048x256 : Shape := ⟨4, ![2, 4, 2048, 256]⟩
abbrev S1x1x2048x32 : Shape := ⟨4, ![1, 1, 2048, 32]⟩
abbrev S2x2048x4x256 : Shape := ⟨4, ![2, 2048, 4, 256]⟩
abbrev S256x32 : Shape := ⟨2, ![256, 32]⟩
abbrev S1x1x32 : Shape := ⟨3, ![1, 1, 32]⟩
abbrev S256x128 : Shape := ⟨2, ![256, 128]⟩
abbrev S2x2048x128 : Shape := ⟨3, ![2, 2048, 128]⟩
abbrev S1x1x128 : Shape := ⟨3, ![1, 1, 128]⟩
abbrev S128x1 : Shape := ⟨2, ![128, 1]⟩
abbrev S2x2048x1 : Shape := ⟨3, ![2, 2048, 1]⟩
abbrev S1x1x1 : Shape := ⟨3, ![1, 1, 1]⟩
abbrev S2048 : Shape := ⟨1, ![2048]⟩
abbrev S1x2048x1 : Shape := ⟨3, ![1, 2048, 1]⟩
abbrev S2x2048x512 : Shape := ⟨3, ![2, 2048, 512]⟩
abbrev S512x256 : Shape := ⟨2, ![512, 256]⟩
abbrev S2x2048x32x1 : Shape := ⟨4, ![2, 2048, 32, 1]⟩
abbrev S2x2048 : Shape := ⟨2, ![2, 2048]⟩

abbrev nBuf : Space → Nat
  | .hbm => 897
  | .vmem => 0
  | .smem => 0
  | _ => 0

abbrev hbmTy0_0 (i : Nat) : BufTy := match i % 128 with
  | 0 => ⟨S2x2048x256, .f32⟩
  | 1 => ⟨S16384x32, .f32⟩
  | 2 => ⟨S256x256, .f32⟩
  | 3 => ⟨S256, .f32⟩
  | 4 => ⟨S4x128x288, .f32⟩
  | 5 => ⟨S4x128, .f32⟩
  | 6 => ⟨S4x33x128, .f32⟩
  | 7 => ⟨S4x33, .f32⟩
  | 8 => ⟨S32x256, .f32⟩
  | 9 => ⟨S32, .f32⟩
  | 10 => ⟨S256x256, .f32⟩
  | 11 => ⟨S256, .f32⟩
  | 12 => ⟨S256x256, .f32⟩
  | 13 => ⟨S256, .f32⟩
  | 14 => ⟨S256x512, .f32⟩
  | 15 => ⟨S256, .f32⟩
  | 16 => ⟨S32x256, .f32⟩
  | 17 => ⟨S32, .f32⟩
  | 18 => ⟨S128x256, .f32⟩
  | 19 => ⟨S128, .f32⟩
  | 20 => ⟨S1x128, .f32⟩
  | 21 => ⟨S1, .f32⟩
  | 22 => ⟨S256, .f32⟩
  | 23 => ⟨S256, .f32⟩
  | 24 => ⟨S256x256, .f32⟩
  | 25 => ⟨S256, .f32⟩
  | 26 => ⟨S2048x32, .f32⟩
  | 27 => ⟨S_, .f32⟩
  | 28 => ⟨S2048x32, .f32⟩
  | 29 => ⟨S2048x32, .f32⟩
  | 30 => ⟨S2048x32, .f32⟩
  | 31 => ⟨S_, .f32⟩
  | 32 => ⟨S2048x32, .f32⟩
  | 33 => ⟨S2048x32, .f32⟩
  | 34 => ⟨S2048x32, .f32⟩
  | 35 => ⟨S2048x32, .f32⟩
  | 36 => ⟨S_, .f32⟩
  | 37 => ⟨S2048x32, .f32⟩
  | 38 => ⟨S2048x32, .f32⟩
  | 39 => ⟨S_, .f32⟩
  | 40 => ⟨S2048x32, .f32⟩
  | 41 => ⟨S2048x32, .f32⟩
  | 42 => ⟨S2048x32, .f32⟩
  | 43 => ⟨S_, .f32⟩
  | 44 => ⟨S2048x32, .f32⟩
  | 45 => ⟨S2048x32, .f32⟩
  | 46 => ⟨S2048x32, .f32⟩
  | 47 => ⟨S2048x32, .f32⟩
  | 48 => ⟨S2048x32, .f32⟩
  | 49 => ⟨S_, .f32⟩
  | 50 => ⟨S2048x32, .f32⟩
  | 51 => ⟨S2048x32, .f32⟩
  | 52 => ⟨S2048x32, .f32⟩
  | 53 => ⟨S2048x32, .f32⟩
  | 54 => ⟨S2048x32, .f32⟩
  | 55 => ⟨S2048x32, .f32⟩
  | 56 => ⟨S_, .f32⟩
  | 57 => ⟨S2048x32, .f32⟩
  | 58 => ⟨S2048x32, .f32⟩
  | 59 => ⟨S2048x32, .f32⟩
  | 60 => ⟨S2048x32, .f32⟩
  | 61 => ⟨S2048x32, .f32⟩
  | 62 => ⟨S2048x32, .f32⟩
  | 63 => ⟨S2048x32, .f32⟩
  | 64 => ⟨S_, .f32⟩
  | 65 => ⟨S2048x32, .f32⟩
  | 66 => ⟨S2048x32, .f32⟩
  | 67 => ⟨S2048x32, .f32⟩
  | 68 => ⟨S2048x32, .f32⟩
  | 69 => ⟨S2048x32, .f32⟩
  | 70 => ⟨S2048x32, .f32⟩
  | 71 => ⟨S2048x32, .f32⟩
  | 72 => ⟨S2048x32, .f32⟩
  | 73 => ⟨S_, .f32⟩
  | 74 => ⟨S2048x32, .f32⟩
  | 75 => ⟨S2048x32, .f32⟩
  | 76 => ⟨S2048x32, .f32⟩
  | 77 => ⟨S_, .f32⟩
  | 78 => ⟨S2048x32, .f32⟩
  | 79 => ⟨S2048x32, .f32⟩
  | 80 => ⟨S2048x32, .f32⟩
  | 81 => ⟨S_, .f32⟩
  | 82 => ⟨S2048x32, .f32⟩
  | 83 => ⟨S2048x32, .f32⟩
  | 84 => ⟨S2048x32, .f32⟩
  | 85 => ⟨S2048x32, .f32⟩
  | 86 => ⟨S_, .f32⟩
  | 87 => ⟨S2048x32, .f32⟩
  | 88 => ⟨S2048x32, .f32⟩
  | 89 => ⟨S2048x32, .f32⟩
  | 90 => ⟨S_, .f32⟩
  | 91 => ⟨S2048x32, .f32⟩
  | 92 => ⟨S2048x32, .f32⟩
  | 93 => ⟨S2048x32, .f32⟩
  | 94 => ⟨S2048x32, .f32⟩
  | 95 => ⟨S2048x32, .f32⟩
  | 96 => ⟨S_, .f32⟩
  | 97 => ⟨S2048x32, .f32⟩
  | 98 => ⟨S2048x32, .f32⟩
  | 99 => ⟨S2048x32, .f32⟩
  | 100 => ⟨S2048x32, .f32⟩
  | 101 => ⟨S2048x32, .f32⟩
  | 102 => ⟨S2048x32, .f32⟩
  | 103 => ⟨S_, .f32⟩
  | 104 => ⟨S2048x32, .f32⟩
  | 105 => ⟨S2048x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S_, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x32, .f32⟩
  | 118 => ⟨S2048x32, .f32⟩
  | 119 => ⟨S2048x32, .f32⟩
  | 120 => ⟨S_, .f32⟩
  | 121 => ⟨S2048x32, .f32⟩
  | 122 => ⟨S2048x32, .f32⟩
  | 123 => ⟨S2048x32, .f32⟩
  | 124 => ⟨S256x256, .f32⟩
  | 125 => ⟨S2x2048x256, .f32⟩
  | 126 => ⟨S1x1x256, .f32⟩
  | 127 => ⟨S2x2048x256, .f32⟩
  | _ => ⟨S2x2048x256, .f32⟩

abbrev hbmTy0_1 (i : Nat) : BufTy := match i % 128 with
  | 0 => ⟨S2x2048x256, .f32⟩
  | 1 => ⟨S1x2048x32x1, .f32⟩
  | 2 => ⟨S2x2048x1x256, .f32⟩
  | 3 => ⟨S2x2048x32x256, .f32⟩
  | 4 => ⟨S2x2048x32x256, .f32⟩
  | 5 => ⟨S2x2048x32x256, .f32⟩
  | 6 => ⟨S_, .f32⟩
  | 7 => ⟨S_, .f32⟩
  | 8 => ⟨S2x2048x32x256, .f32⟩
  | 9 => ⟨S1x2048x32x1, .f32⟩
  | 10 => ⟨S2x2048x1x256, .f32⟩
  | 11 => ⟨S2x2048x32x256, .f32⟩
  | 12 => ⟨S2x2048x32x256, .f32⟩
  | 13 => ⟨S2x2048x32x256, .f32⟩
  | 14 => ⟨S_, .f32⟩
  | 15 => ⟨S_, .f32⟩
  | 16 => ⟨S2x2048x32x256, .f32⟩
  | 17 => ⟨S1x2048x32, .f32⟩
  | 18 => ⟨S2x2048x32, .f32⟩
  | 19 => ⟨S2x2048x288, .f32⟩
  | 20 => ⟨S4x128x2x2048, .f32⟩
  | 21 => ⟨S2x4x2048x128, .f32⟩
  | 22 => ⟨S1x4x1x128, .f32⟩
  | 23 => ⟨S2x4x2048x128, .f32⟩
  | 24 => ⟨S2x4x2048x128, .f32⟩
  | 25 => ⟨S_, .f32⟩
  | 26 => ⟨S2x4x2048x128, .f32⟩
  | 27 => ⟨S2x4x2048x128, .f32⟩
  | 28 => ⟨S2x4x2048x128, .f32⟩
  | 29 => ⟨S_, .f32⟩
  | 30 => ⟨S2x4x2048x128, .f32⟩
  | 31 => ⟨S2x4x2048x128, .f32⟩
  | 32 => ⟨S2x4x2048x128, .f32⟩
  | 33 => ⟨S2x4x2048x128, .f32⟩
  | 34 => ⟨S4x33x2x2048, .f32⟩
  | 35 => ⟨S2x4x2048x33, .f32⟩
  | 36 => ⟨S1x4x1x33, .f32⟩
  | 37 => ⟨S2x4x2048x33, .f32⟩
  | 38 => ⟨S2x4x2048x33, .f32⟩
  | 39 => ⟨S2x4x2048x32, .f32⟩
  | 40 => ⟨S2x4x2048x32, .f32⟩
  | 41 => ⟨S_, .f32⟩
  | 42 => ⟨S2x4x2048x32, .f32⟩
  | 43 => ⟨S2x4x2048x32, .f32⟩
  | 44 => ⟨S2x4x2048x1, .f32⟩
  | 45 => ⟨S2x4x2048x1, .f32⟩
  | 46 => ⟨S2x4x2048x1, .f32⟩
  | 47 => ⟨S_, .f32⟩
  | 48 => ⟨S2x4x2048x1, .f32⟩
  | 49 => ⟨S2x4x2048x1, .f32⟩
  | 50 => ⟨S_, .f32⟩
  | 51 => ⟨S2x4x2048x1, .f32⟩
  | 52 => ⟨S2x4x2048x1, .f32⟩
  | 53 => ⟨S_, .f32⟩
  | 54 => ⟨S2x4x2048x1, .f32⟩
  | 55 => ⟨S2x4x2048x1, .f32⟩
  | 56 => ⟨S_, .f32⟩
  | 57 => ⟨S2x4x2048x1, .f32⟩
  | 58 => ⟨S2x4x2048x1, .f32⟩
  | 59 => ⟨S_, .f32⟩
  | 60 => ⟨S2x4x2048x32, .f32⟩
  | 61 => ⟨S2x4x2048x32, .f32⟩
  | 62 => ⟨S2x4x2048x32, .f32⟩
  | 63 => ⟨S_, .f32⟩
  | 64 => ⟨S2x4x2048x32, .f32⟩
  | 65 => ⟨S2x4x2048x32, .f32⟩
  | 66 => ⟨S2x4x2048x32, .f32⟩
  | 67 => ⟨S2x4x2048x32, .f32⟩
  | 68 => ⟨S_, .f32⟩
  | 69 => ⟨S2x4x2048x32, .f32⟩
  | 70 => ⟨S2x4x2048x32, .f32⟩
  | 71 => ⟨S_, .f32⟩
  | 72 => ⟨S2x4x2048x32, .f32⟩
  | 73 => ⟨S2x4x2048x32, .f32⟩
  | 74 => ⟨S2x4x2048x32, .f32⟩
  | 75 => ⟨S_, .f32⟩
  | 76 => ⟨S2x4x2048x32, .f32⟩
  | 77 => ⟨S2x4x2048x32, .f32⟩
  | 78 => ⟨S2x4x2048x32, .f32⟩
  | 79 => ⟨S2x4x2048x32, .f32⟩
  | 80 => ⟨S2x4x2048x32, .f32⟩
  | 81 => ⟨S_, .f32⟩
  | 82 => ⟨S2x4x2048x32, .f32⟩
  | 83 => ⟨S2x4x2048x32, .f32⟩
  | 84 => ⟨S2x4x2048x32, .f32⟩
  | 85 => ⟨S2x4x2048x32, .f32⟩
  | 86 => ⟨S2x4x2048x32, .f32⟩
  | 87 => ⟨S2x4x2048x32, .f32⟩
  | 88 => ⟨S_, .f32⟩
  | 89 => ⟨S2x4x2048x32, .f32⟩
  | 90 => ⟨S2x4x2048x32, .f32⟩
  | 91 => ⟨S2x4x2048x32, .f32⟩
  | 92 => ⟨S2x4x2048x32, .f32⟩
  | 93 => ⟨S2x4x2048x32, .f32⟩
  | 94 => ⟨S2x4x2048x32, .f32⟩
  | 95 => ⟨S2x4x2048x32, .f32⟩
  | 96 => ⟨S_, .f32⟩
  | 97 => ⟨S2x4x2048x32, .f32⟩
  | 98 => ⟨S2x4x2048x32, .f32⟩
  | 99 => ⟨S2x4x2048x32, .f32⟩
  | 100 => ⟨S2x4x2048x32, .f32⟩
  | 101 => ⟨S2x4x2048x32, .f32⟩
  | 102 => ⟨S2x4x2048x32, .f32⟩
  | 103 => ⟨S2x4x2048x32, .f32⟩
  | 104 => ⟨S2x4x2048x32, .f32⟩
  | 105 => ⟨S_, .f32⟩
  | 106 => ⟨S2x4x2048x32, .f32⟩
  | 107 => ⟨S2x4x2048x32, .f32⟩
  | 108 => ⟨S2x4x2048x32, .f32⟩
  | 109 => ⟨S_, .f32⟩
  | 110 => ⟨S2x4x2048x32, .f32⟩
  | 111 => ⟨S2x4x2048x32, .f32⟩
  | 112 => ⟨S2x4x2048x32, .f32⟩
  | 113 => ⟨S_, .f32⟩
  | 114 => ⟨S2x4x2048x32, .f32⟩
  | 115 => ⟨S2x4x2048x32, .f32⟩
  | 116 => ⟨S2x4x2048x32, .f32⟩
  | 117 => ⟨S2x4x2048x32, .f32⟩
  | 118 => ⟨S_, .f32⟩
  | 119 => ⟨S2x4x2048x32, .f32⟩
  | 120 => ⟨S2x4x2048x32, .f32⟩
  | 121 => ⟨S2x4x2048x32, .f32⟩
  | 122 => ⟨S_, .f32⟩
  | 123 => ⟨S2x4x2048x32, .f32⟩
  | 124 => ⟨S2x4x2048x32, .f32⟩
  | 125 => ⟨S2x4x2048x32, .f32⟩
  | 126 => ⟨S2x4x2048x32, .f32⟩
  | 127 => ⟨S2x4x2048x32, .f32⟩
  | _ => ⟨S2x2048x256, .f32⟩

abbrev hbmTy0_2 (i : Nat) : BufTy := match i % 128 with
  | 0 => ⟨S_, .f32⟩
  | 1 => ⟨S2x4x2048x32, .f32⟩
  | 2 => ⟨S2x4x2048x32, .f32⟩
  | 3 => ⟨S2x4x2048x32, .f32⟩
  | 4 => ⟨S2x4x2048x32, .f32⟩
  | 5 => ⟨S2x4x2048x32, .f32⟩
  | 6 => ⟨S2x4x2048x32, .f32⟩
  | 7 => ⟨S_, .f32⟩
  | 8 => ⟨S2x4x2048x32, .f32⟩
  | 9 => ⟨S2x4x2048x32, .f32⟩
  | 10 => ⟨S2x4x2048x32, .f32⟩
  | 11 => ⟨S2x4x2048x32, .f32⟩
  | 12 => ⟨S2x4x2048x32, .f32⟩
  | 13 => ⟨S2x4x2048x32, .f32⟩
  | 14 => ⟨S2x4x2048x32, .f32⟩
  | 15 => ⟨S_, .f32⟩
  | 16 => ⟨S2x4x2048x32, .f32⟩
  | 17 => ⟨S2x4x2048x32, .f32⟩
  | 18 => ⟨S2x4x2048x32, .f32⟩
  | 19 => ⟨S2x4x2048x32, .f32⟩
  | 20 => ⟨S2x4x2048x32, .f32⟩
  | 21 => ⟨S2x4x2048x32, .f32⟩
  | 22 => ⟨S2x4x2048x32, .f32⟩
  | 23 => ⟨S2x4x2048x32, .f32⟩
  | 24 => ⟨S_, .f32⟩
  | 25 => ⟨S2x4x2048x32, .f32⟩
  | 26 => ⟨S2x4x2048x32, .f32⟩
  | 27 => ⟨S2x4x2048x32, .f32⟩
  | 28 => ⟨S_, .f32⟩
  | 29 => ⟨S2x4x2048x256, .f32⟩
  | 30 => ⟨S_, .f32⟩
  | 31 => ⟨S2x4x2048x1, .f32⟩
  | 32 => ⟨S2x4x2048x1, .f32⟩
  | 33 => ⟨S_, .f32⟩
  | 34 => ⟨S2x4x2048x1, .f32⟩
  | 35 => ⟨S2x4x2048x1, .f32⟩
  | 36 => ⟨S_, .f32⟩
  | 37 => ⟨S2x4x2048x1, .f32⟩
  | 38 => ⟨S2x4x2048x1, .f32⟩
  | 39 => ⟨S2x4x2048x1, .f32⟩
  | 40 => ⟨S_, .f32⟩
  | 41 => ⟨S2x4x2048x32, .f32⟩
  | 42 => ⟨S2x4x2048x32, .f32⟩
  | 43 => ⟨S_, .f32⟩
  | 44 => ⟨S2x4x2048x32, .f32⟩
  | 45 => ⟨S2x4x2048x32, .f32⟩
  | 46 => ⟨S2x4x2048x32, .f32⟩
  | 47 => ⟨S_, .f32⟩
  | 48 => ⟨S2x4x2048x32, .f32⟩
  | 49 => ⟨S2x4x2048x32, .f32⟩
  | 50 => ⟨S_, .f32⟩
  | 51 => ⟨S2x4x2048x32, .f32⟩
  | 52 => ⟨S2x4x2048x32, .f32⟩
  | 53 => ⟨S2x4x2048x32, .f32⟩
  | 54 => ⟨S1x1x2048x32, .f32⟩
  | 55 => ⟨S2x4x2048x32, .f32⟩
  | 56 => ⟨S2x4x2048x32, .f32⟩
  | 57 => ⟨S1x1x2048x32, .f32⟩
  | 58 => ⟨S2x4x2048x32, .f32⟩
  | 59 => ⟨S2x4x2048x32, .f32⟩
  | 60 => ⟨S2x4x2048x32, .f32⟩
  | 61 => ⟨S1x1x2048x32, .f32⟩
  | 62 => ⟨S2x4x2048x32, .f32⟩
  | 63 => ⟨S2x4x2048x32, .f32⟩
  | 64 => ⟨S1x1x2048x32, .f32⟩
  | 65 => ⟨S2x4x2048x32, .f32⟩
  | 66 => ⟨S2x4x2048x32, .f32⟩
  | 67 => ⟨S2x4x2048x32, .f32⟩
  | 68 => ⟨S2x2048x4x256, .f32⟩
  | 69 => ⟨S2x4x2048x256, .f32⟩
  | 70 => ⟨S2x2048x4x256, .f32⟩
  | 71 => ⟨S2x4x2048x256, .f32⟩
  | 72 => ⟨S2x4x2048x256, .f32⟩
  | 73 => ⟨S_, .f32⟩
  | 74 => ⟨S2x4x2048x256, .f32⟩
  | 75 => ⟨S2x4x2048x256, .f32⟩
  | 76 => ⟨S2x4x2048x256, .f32⟩
  | 77 => ⟨S2x4x2048x256, .f32⟩
  | 78 => ⟨S2x4x2048x256, .f32⟩
  | 79 => ⟨S2x4x2048x1, .f32⟩
  | 80 => ⟨S2x4x2048x1, .f32⟩
  | 81 => ⟨S_, .f32⟩
  | 82 => ⟨S2x4x2048x1, .f32⟩
  | 83 => ⟨S2x4x2048x1, .f32⟩
  | 84 => ⟨S_, .f32⟩
  | 85 => ⟨S2x4x2048x1, .f32⟩
  | 86 => ⟨S2x4x2048x1, .f32⟩
  | 87 => ⟨S2x4x2048x1, .f32⟩
  | 88 => ⟨S_, .f32⟩
  | 89 => ⟨S2x4x2048x32, .f32⟩
  | 90 => ⟨S2x4x2048x32, .f32⟩
  | 91 => ⟨S_, .f32⟩
  | 92 => ⟨S2x4x2048x32, .f32⟩
  | 93 => ⟨S2x4x2048x32, .f32⟩
  | 94 => ⟨S2x4x2048x32, .f32⟩
  | 95 => ⟨S_, .f32⟩
  | 96 => ⟨S2x4x2048x32, .f32⟩
  | 97 => ⟨S2x4x2048x32, .f32⟩
  | 98 => ⟨S_, .f32⟩
  | 99 => ⟨S2x4x2048x32, .f32⟩
  | 100 => ⟨S2x4x2048x32, .f32⟩
  | 101 => ⟨S2x4x2048x32, .f32⟩
  | 102 => ⟨S1x1x2048x32, .f32⟩
  | 103 => ⟨S2x4x2048x32, .f32⟩
  | 104 => ⟨S2x4x2048x32, .f32⟩
  | 105 => ⟨S1x1x2048x32, .f32⟩
  | 106 => ⟨S2x4x2048x32, .f32⟩
  | 107 => ⟨S2x4x2048x32, .f32⟩
  | 108 => ⟨S2x4x2048x32, .f32⟩
  | 109 => ⟨S1x1x2048x32, .f32⟩
  | 110 => ⟨S2x4x2048x32, .f32⟩
  | 111 => ⟨S2x4x2048x32, .f32⟩
  | 112 => ⟨S1x1x2048x32, .f32⟩
  | 113 => ⟨S2x4x2048x32, .f32⟩
  | 114 => ⟨S2x4x2048x32, .f32⟩
  | 115 => ⟨S2x4x2048x32, .f32⟩
  | 116 => ⟨S2x2048x4x256, .f32⟩
  | 117 => ⟨S2x4x2048x256, .f32⟩
  | 118 => ⟨S2x2048x4x256, .f32⟩
  | 119 => ⟨S2x4x2048x256, .f32⟩
  | 120 => ⟨S2x4x2048x256, .f32⟩
  | 121 => ⟨S_, .f32⟩
  | 122 => ⟨S2x4x2048x256, .f32⟩
  | 123 => ⟨S2x4x2048x256, .f32⟩
  | 124 => ⟨S2x4x2048x256, .f32⟩
  | 125 => ⟨S2x4x2048x256, .f32⟩
  | 126 => ⟨S2x4x2048x256, .f32⟩
  | 127 => ⟨S2x4x2048x1, .f32⟩
  | _ => ⟨S2x2048x256, .f32⟩

abbrev hbmTy0_3 (i : Nat) : BufTy := match i % 128 with
  | 0 => ⟨S2x4x2048x1, .f32⟩
  | 1 => ⟨S_, .f32⟩
  | 2 => ⟨S2x4x2048x1, .f32⟩
  | 3 => ⟨S2x4x2048x1, .f32⟩
  | 4 => ⟨S_, .f32⟩
  | 5 => ⟨S2x4x2048x1, .f32⟩
  | 6 => ⟨S2x4x2048x1, .f32⟩
  | 7 => ⟨S2x4x2048x1, .f32⟩
  | 8 => ⟨S_, .f32⟩
  | 9 => ⟨S2x4x2048x32, .f32⟩
  | 10 => ⟨S2x4x2048x32, .f32⟩
  | 11 => ⟨S_, .f32⟩
  | 12 => ⟨S2x4x2048x32, .f32⟩
  | 13 => ⟨S2x4x2048x32, .f32⟩
  | 14 => ⟨S2x4x2048x32, .f32⟩
  | 15 => ⟨S_, .f32⟩
  | 16 => ⟨S2x4x2048x32, .f32⟩
  | 17 => ⟨S2x4x2048x32, .f32⟩
  | 18 => ⟨S_, .f32⟩
  | 19 => ⟨S2x4x2048x32, .f32⟩
  | 20 => ⟨S2x4x2048x32, .f32⟩
  | 21 => ⟨S2x4x2048x32, .f32⟩
  | 22 => ⟨S1x1x2048x32, .f32⟩
  | 23 => ⟨S2x4x2048x32, .f32⟩
  | 24 => ⟨S2x4x2048x32, .f32⟩
  | 25 => ⟨S1x1x2048x32, .f32⟩
  | 26 => ⟨S2x4x2048x32, .f32⟩
  | 27 => ⟨S2x4x2048x32, .f32⟩
  | 28 => ⟨S2x4x2048x32, .f32⟩
  | 29 => ⟨S1x1x2048x32, .f32⟩
  | 30 => ⟨S2x4x2048x32, .f32⟩
  | 31 => ⟨S2x4x2048x32, .f32⟩
  | 32 => ⟨S1x1x2048x32, .f32⟩
  | 33 => ⟨S2x4x2048x32, .f32⟩
  | 34 => ⟨S2x4x2048x32, .f32⟩
  | 35 => ⟨S2x4x2048x32, .f32⟩
  | 36 => ⟨S2x2048x4x256, .f32⟩
  | 37 => ⟨S2x4x2048x256, .f32⟩
  | 38 => ⟨S2x2048x4x256, .f32⟩
  | 39 => ⟨S2x4x2048x256, .f32⟩
  | 40 => ⟨S2x4x2048x256, .f32⟩
  | 41 => ⟨S_, .f32⟩
  | 42 => ⟨S2x4x2048x256, .f32⟩
  | 43 => ⟨S2x4x2048x256, .f32⟩
  | 44 => ⟨S2x4x2048x256, .f32⟩
  | 45 => ⟨S2x4x2048x256, .f32⟩
  | 46 => ⟨S2x4x2048x256, .f32⟩
  | 47 => ⟨S2x4x2048x1, .f32⟩
  | 48 => ⟨S2x4x2048x1, .f32⟩
  | 49 => ⟨S_, .f32⟩
  | 50 => ⟨S2x4x2048x1, .f32⟩
  | 51 => ⟨S2x4x2048x1, .f32⟩
  | 52 => ⟨S_, .f32⟩
  | 53 => ⟨S2x4x2048x1, .f32⟩
  | 54 => ⟨S2x4x2048x1, .f32⟩
  | 55 => ⟨S2x4x2048x1, .f32⟩
  | 56 => ⟨S_, .f32⟩
  | 57 => ⟨S2x4x2048x32, .f32⟩
  | 58 => ⟨S2x4x2048x32, .f32⟩
  | 59 => ⟨S_, .f32⟩
  | 60 => ⟨S2x4x2048x32, .f32⟩
  | 61 => ⟨S2x4x2048x32, .f32⟩
  | 62 => ⟨S2x4x2048x32, .f32⟩
  | 63 => ⟨S_, .f32⟩
  | 64 => ⟨S2x4x2048x32, .f32⟩
  | 65 => ⟨S2x4x2048x32, .f32⟩
  | 66 => ⟨S_, .f32⟩
  | 67 => ⟨S2x4x2048x32, .f32⟩
  | 68 => ⟨S2x4x2048x32, .f32⟩
  | 69 => ⟨S2x4x2048x32, .f32⟩
  | 70 => ⟨S1x1x2048x32, .f32⟩
  | 71 => ⟨S2x4x2048x32, .f32⟩
  | 72 => ⟨S2x4x2048x32, .f32⟩
  | 73 => ⟨S1x1x2048x32, .f32⟩
  | 74 => ⟨S2x4x2048x32, .f32⟩
  | 75 => ⟨S2x4x2048x32, .f32⟩
  | 76 => ⟨S2x4x2048x32, .f32⟩
  | 77 => ⟨S1x1x2048x32, .f32⟩
  | 78 => ⟨S2x4x2048x32, .f32⟩
  | 79 => ⟨S2x4x2048x32, .f32⟩
  | 80 => ⟨S1x1x2048x32, .f32⟩
  | 81 => ⟨S2x4x2048x32, .f32⟩
  | 82 => ⟨S2x4x2048x32, .f32⟩
  | 83 => ⟨S2x4x2048x32, .f32⟩
  | 84 => ⟨S2x2048x4x256, .f32⟩
  | 85 => ⟨S2x4x2048x256, .f32⟩
  | 86 => ⟨S2x2048x4x256, .f32⟩
  | 87 => ⟨S2x4x2048x256, .f32⟩
  | 88 => ⟨S2x4x2048x256, .f32⟩
  | 89 => ⟨S_, .f32⟩
  | 90 => ⟨S2x4x2048x256, .f32⟩
  | 91 => ⟨S2x4x2048x256, .f32⟩
  | 92 => ⟨S2x4x2048x256, .f32⟩
  | 93 => ⟨S2x4x2048x256, .f32⟩
  | 94 => ⟨S2x4x2048x256, .f32⟩
  | 95 => ⟨S2x4x2048x1, .f32⟩
  | 96 => ⟨S2x4x2048x1, .f32⟩
  | 97 => ⟨S_, .f32⟩
  | 98 => ⟨S2x4x2048x1, .f32⟩
  | 99 => ⟨S2x4x2048x1, .f32⟩
  | 100 => ⟨S_, .f32⟩
  | 101 => ⟨S2x4x2048x1, .f32⟩
  | 102 => ⟨S2x4x2048x1, .f32⟩
  | 103 => ⟨S2x4x2048x1, .f32⟩
  | 104 => ⟨S_, .f32⟩
  | 105 => ⟨S2x4x2048x32, .f32⟩
  | 106 => ⟨S2x4x2048x32, .f32⟩
  | 107 => ⟨S_, .f32⟩
  | 108 => ⟨S2x4x2048x32, .f32⟩
  | 109 => ⟨S2x4x2048x32, .f32⟩
  | 110 => ⟨S2x4x2048x32, .f32⟩
  | 111 => ⟨S_, .f32⟩
  | 112 => ⟨S2x4x2048x32, .f32⟩
  | 113 => ⟨S2x4x2048x32, .f32⟩
  | 114 => ⟨S_, .f32⟩
  | 115 => ⟨S2x4x2048x32, .f32⟩
  | 116 => ⟨S2x4x2048x32, .f32⟩
  | 117 => ⟨S2x4x2048x32, .f32⟩
  | 118 => ⟨S1x1x2048x32, .f32⟩
  | 119 => ⟨S2x4x2048x32, .f32⟩
  | 120 => ⟨S2x4x2048x32, .f32⟩
  | 121 => ⟨S1x1x2048x32, .f32⟩
  | 122 => ⟨S2x4x2048x32, .f32⟩
  | 123 => ⟨S2x4x2048x32, .f32⟩
  | 124 => ⟨S2x4x2048x32, .f32⟩
  | 125 => ⟨S1x1x2048x32, .f32⟩
  | 126 => ⟨S2x4x2048x32, .f32⟩
  | 127 => ⟨S2x4x2048x32, .f32⟩
  | _ => ⟨S2x2048x256, .f32⟩

abbrev hbmTy0_4 (i : Nat) : BufTy := match i % 128 with
  | 0 => ⟨S1x1x2048x32, .f32⟩
  | 1 => ⟨S2x4x2048x32, .f32⟩
  | 2 => ⟨S2x4x2048x32, .f32⟩
  | 3 => ⟨S2x4x2048x32, .f32⟩
  | 4 => ⟨S2x2048x4x256, .f32⟩
  | 5 => ⟨S2x4x2048x256, .f32⟩
  | 6 => ⟨S2x2048x4x256, .f32⟩
  | 7 => ⟨S2x4x2048x256, .f32⟩
  | 8 => ⟨S2x4x2048x256, .f32⟩
  | 9 => ⟨S_, .f32⟩
  | 10 => ⟨S2x4x2048x256, .f32⟩
  | 11 => ⟨S2x4x2048x256, .f32⟩
  | 12 => ⟨S2x4x2048x256, .f32⟩
  | 13 => ⟨S2x4x2048x256, .f32⟩
  | 14 => ⟨S2x4x2048x256, .f32⟩
  | 15 => ⟨S2x4x2048x1, .f32⟩
  | 16 => ⟨S_, .f32⟩
  | 17 => ⟨S2x4x2048x1, .f32⟩
  | 18 => ⟨S2x4x2048x1, .f32⟩
  | 19 => ⟨S2x4x2048x256, .f32⟩
  | 20 => ⟨S2x4x2048x256, .f32⟩
  | 21 => ⟨S_, .f32⟩
  | 22 => ⟨S2x2048x256, .f32⟩
  | 23 => ⟨S_, .f32⟩
  | 24 => ⟨S2x2048x256, .f32⟩
  | 25 => ⟨S2x2048x256, .f32⟩
  | 26 => ⟨S256x32, .f32⟩
  | 27 => ⟨S2x2048x32, .f32⟩
  | 28 => ⟨S1x1x32, .f32⟩
  | 29 => ⟨S2x2048x32, .f32⟩
  | 30 => ⟨S2x2048x32, .f32⟩
  | 31 => ⟨S2x2048x32, .f32⟩
  | 32 => ⟨S_, .f32⟩
  | 33 => ⟨S2x2048x32, .f32⟩
  | 34 => ⟨S2x2048x32, .f32⟩
  | 35 => ⟨S256x256, .f32⟩
  | 36 => ⟨S2x2048x256, .f32⟩
  | 37 => ⟨S1x1x256, .f32⟩
  | 38 => ⟨S2x2048x256, .f32⟩
  | 39 => ⟨S2x2048x256, .f32⟩
  | 40 => ⟨S256x128, .f32⟩
  | 41 => ⟨S2x2048x128, .f32⟩
  | 42 => ⟨S1x1x128, .f32⟩
  | 43 => ⟨S2x2048x128, .f32⟩
  | 44 => ⟨S2x2048x128, .f32⟩
  | 45 => ⟨S_, .f32⟩
  | 46 => ⟨S2x2048x128, .f32⟩
  | 47 => ⟨S2x2048x128, .f32⟩
  | 48 => ⟨S2x2048x128, .f32⟩
  | 49 => ⟨S_, .f32⟩
  | 50 => ⟨S2x2048x128, .f32⟩
  | 51 => ⟨S2x2048x128, .f32⟩
  | 52 => ⟨S2x2048x128, .f32⟩
  | 53 => ⟨S2x2048x128, .f32⟩
  | 54 => ⟨S128x1, .f32⟩
  | 55 => ⟨S2x2048x1, .f32⟩
  | 56 => ⟨S1x1x1, .f32⟩
  | 57 => ⟨S2x2048x1, .f32⟩
  | 58 => ⟨S2x2048x1, .f32⟩
  | 59 => ⟨S2x2048x1, .f32⟩
  | 60 => ⟨S2x2048x1, .f32⟩
  | 61 => ⟨S_, .f32⟩
  | 62 => ⟨S2x2048x1, .f32⟩
  | 63 => ⟨S2x2048x1, .f32⟩
  | 64 => ⟨S_, .f32⟩
  | 65 => ⟨S2x2048x1, .f32⟩
  | 66 => ⟨S2x2048x1, .f32⟩
  | 67 => ⟨S256x256, .f32⟩
  | 68 => ⟨S2x2048x256, .f32⟩
  | 69 => ⟨S1x1x256, .f32⟩
  | 70 => ⟨S2x2048x256, .f32⟩
  | 71 => ⟨S2x2048x256, .f32⟩
  | 72 => ⟨S_, .f32⟩
  | 73 => ⟨S_, .f32⟩
  | 74 => ⟨S2x2048x256, .f32⟩
  | 75 => ⟨S2048, .f32⟩
  | 76 => ⟨S_, .f32⟩
  | 77 => ⟨S2048, .f32⟩
  | 78 => ⟨S2048, .f32⟩
  | 79 => ⟨S1x2048x1, .f32⟩
  | 80 => ⟨S2x2048x256, .f32⟩
  | 81 => ⟨S2x2048x256, .f32⟩
  | 82 => ⟨S2x2048x512, .f32⟩
  | 83 => ⟨S512x256, .f32⟩
  | 84 => ⟨S2x2048x256, .f32⟩
  | 85 => ⟨S1x1x256, .f32⟩
  | 86 => ⟨S2x2048x256, .f32⟩
  | 87 => ⟨S2x2048x256, .f32⟩
  | 88 => ⟨S_, .f32⟩
  | 89 => ⟨S2x2048x256, .f32⟩
  | 90 => ⟨S2x2048x256, .f32⟩
  | 91 => ⟨S2x2048x256, .f32⟩
  | 92 => ⟨S_, .f32⟩
  | 93 => ⟨S2x2048x256, .f32⟩
  | 94 => ⟨S2x2048x256, .f32⟩
  | 95 => ⟨S2x2048x256, .f32⟩
  | 96 => ⟨S2x2048x256, .f32⟩
  | 97 => ⟨S256x32, .f32⟩
  | 98 => ⟨S2x2048x32, .f32⟩
  | 99 => ⟨S1x1x32, .f32⟩
  | 100 => ⟨S2x2048x32, .f32⟩
  | 101 => ⟨S2x2048x32, .f32⟩
  | 102 => ⟨S2x2048x32, .f32⟩
  | 103 => ⟨S_, .f32⟩
  | 104 => ⟨S2x2048x32, .f32⟩
  | 105 => ⟨S2x2048x32, .f32⟩
  | 106 => ⟨S2x2048x256, .f32⟩
  | 107 => ⟨S2x2048x256, .f32⟩
  | 108 => ⟨S_, .f32⟩
  | 109 => ⟨S2x2048x32, .f32⟩
  | 110 => ⟨S2x2048x32, .f32⟩
  | 111 => ⟨S2x2048x32, .f32⟩
  | 112 => ⟨S_, .f32⟩
  | 113 => ⟨S2x2048x32, .f32⟩
  | 114 => ⟨S2x2048x32, .f32⟩
  | 115 => ⟨S2x2048x32, .f32⟩
  | 116 => ⟨S2x2048x32, .f32⟩
  | 117 => ⟨S_, .f32⟩
  | 118 => ⟨S2x2048x32, .f32⟩
  | 119 => ⟨S2x2048x32, .f32⟩
  | 120 => ⟨S_, .f32⟩
  | 121 => ⟨S2x2048x32, .f32⟩
  | 122 => ⟨S2x2048x32, .f32⟩
  | 123 => ⟨S2x2048x32, .f32⟩
  | 124 => ⟨S_, .f32⟩
  | 125 => ⟨S2x2048x32, .f32⟩
  | 126 => ⟨S2x2048x32, .f32⟩
  | 127 => ⟨S2x2048x32, .f32⟩
  | _ => ⟨S2x2048x256, .f32⟩

abbrev hbmTy0_5 (i : Nat) : BufTy := match i % 128 with
  | 0 => ⟨S2x2048x32, .f32⟩
  | 1 => ⟨S2x2048x32, .f32⟩
  | 2 => ⟨S_, .f32⟩
  | 3 => ⟨S2x2048x32, .f32⟩
  | 4 => ⟨S2x2048x32, .f32⟩
  | 5 => ⟨S2x2048x32, .f32⟩
  | 6 => ⟨S2x2048x32, .f32⟩
  | 7 => ⟨S2x2048x32, .f32⟩
  | 8 => ⟨S2x2048x32, .f32⟩
  | 9 => ⟨S_, .f32⟩
  | 10 => ⟨S2x2048x32, .f32⟩
  | 11 => ⟨S2x2048x32, .f32⟩
  | 12 => ⟨S2x2048x32, .f32⟩
  | 13 => ⟨S2x2048x32, .f32⟩
  | 14 => ⟨S2x2048x32, .f32⟩
  | 15 => ⟨S2x2048x32, .f32⟩
  | 16 => ⟨S2x2048x32, .f32⟩
  | 17 => ⟨S_, .f32⟩
  | 18 => ⟨S2x2048x32, .f32⟩
  | 19 => ⟨S2x2048x32, .f32⟩
  | 20 => ⟨S2x2048x32, .f32⟩
  | 21 => ⟨S2x2048x32, .f32⟩
  | 22 => ⟨S2x2048x32, .f32⟩
  | 23 => ⟨S2x2048x32, .f32⟩
  | 24 => ⟨S2x2048x32, .f32⟩
  | 25 => ⟨S2x2048x32, .f32⟩
  | 26 => ⟨S_, .f32⟩
  | 27 => ⟨S2x2048x32, .f32⟩
  | 28 => ⟨S2x2048x32, .f32⟩
  | 29 => ⟨S2x2048x32, .f32⟩
  | 30 => ⟨S2x2048x32x1, .f32⟩
  | 31 => ⟨S2x2048x1x256, .f32⟩
  | 32 => ⟨S2x2048x32x256, .f32⟩
  | 33 => ⟨S2x2048x32x256, .f32⟩
  | 34 => ⟨S2x2048x32x256, .f32⟩
  | 35 => ⟨S_, .f32⟩
  | 36 => ⟨S_, .f32⟩
  | 37 => ⟨S2x2048x32x256, .f32⟩
  | 38 => ⟨S_, .f32⟩
  | 39 => ⟨S2x2048x32, .f32⟩
  | 40 => ⟨S2x2048x32, .f32⟩
  | 41 => ⟨S2x2048x32, .f32⟩
  | 42 => ⟨S_, .f32⟩
  | 43 => ⟨S2x2048x32, .f32⟩
  | 44 => ⟨S2x2048x32, .f32⟩
  | 45 => ⟨S2x2048x32, .f32⟩
  | 46 => ⟨S2x2048x32, .f32⟩
  | 47 => ⟨S_, .f32⟩
  | 48 => ⟨S2x2048x32, .f32⟩
  | 49 => ⟨S2x2048x32, .f32⟩
  | 50 => ⟨S2x2048x32, .f32⟩
  | 51 => ⟨S_, .f32⟩
  | 52 => ⟨S2x2048x32, .f32⟩
  | 53 => ⟨S2x2048x32, .f32⟩
  | 54 => ⟨S2x2048x32, .f32⟩
  | 55 => ⟨S2x2048x32, .f32⟩
  | 56 => ⟨S2x2048x32, .f32⟩
  | 57 => ⟨S_, .f32⟩
  | 58 => ⟨S2x2048x32, .f32⟩
  | 59 => ⟨S2x2048x32, .f32⟩
  | 60 => ⟨S2x2048x32, .f32⟩
  | 61 => ⟨S2x2048x32, .f32⟩
  | 62 => ⟨S2x2048x32, .f32⟩
  | 63 => ⟨S2x2048x32, .f32⟩
  | 64 => ⟨S_, .f32⟩
  | 65 => ⟨S2x2048x32, .f32⟩
  | 66 => ⟨S2x2048x32, .f32⟩
  | 67 => ⟨S2x2048x32, .f32⟩
  | 68 => ⟨S2x2048x32, .f32⟩
  | 69 => ⟨S2x2048x32, .f32⟩
  | 70 => ⟨S2x2048x32, .f32⟩
  | 71 => ⟨S2x2048x32, .f32⟩
  | 72 => ⟨S_, .f32⟩
  | 73 => ⟨S2x2048x32, .f32⟩
  | 74 => ⟨S2x2048x32, .f32⟩
  | 75 => ⟨S2x2048x32, .f32⟩
  | 76 => ⟨S2x2048x32, .f32⟩
  | 77 => ⟨S2x2048x32, .f32⟩
  | 78 => ⟨S2x2048x32, .f32⟩
  | 79 => ⟨S2x2048x32, .f32⟩
  | 80 => ⟨S2x2048x32, .f32⟩
  | 81 => ⟨S_, .f32⟩
  | 82 => ⟨S2x2048x32, .f32⟩
  | 83 => ⟨S2x2048x32, .f32⟩
  | 84 => ⟨S2x2048x32, .f32⟩
  | 85 => ⟨S2x2048x32x1, .f32⟩
  | 86 => ⟨S2x2048x1x256, .f32⟩
  | 87 => ⟨S2x2048x32x256, .f32⟩
  | 88 => ⟨S2x2048x32x256, .f32⟩
  | 89 => ⟨S2x2048x32x256, .f32⟩
  | 90 => ⟨S_, .f32⟩
  | 91 => ⟨S_, .f32⟩
  | 92 => ⟨S2x2048x32x256, .f32⟩
  | 93 => ⟨S_, .f32⟩
  | 94 => ⟨S_, .f32⟩
  | 95 => ⟨S2x2048x1, .f32⟩
  | 96 => ⟨S_, .f32⟩
  | 97 => ⟨S_, .f32⟩
  | 98 => ⟨S2x2048x1, .f32⟩
  | 99 => ⟨S2x2048x1, .f32⟩
  | 100 => ⟨S_, .f32⟩
  | 101 => ⟨S2x2048x32, .f32⟩
  | 102 => ⟨S2x2048x32, .f32⟩
  | 103 => ⟨S2x2048x32, .f32⟩
  | 104 => ⟨S_, .f32⟩
  | 105 => ⟨S2x2048x32, .f32⟩
  | 106 => ⟨S2x2048x32, .f32⟩
  | 107 => ⟨S2x2048x32, .f32⟩
  | 108 => ⟨S2x2048x32, .f32⟩
  | 109 => ⟨S_, .f32⟩
  | 110 => ⟨S2x2048x32, .f32⟩
  | 111 => ⟨S2x2048x32, .f32⟩
  | 112 => ⟨S_, .f32⟩
  | 113 => ⟨S2x2048x32, .f32⟩
  | 114 => ⟨S2x2048x32, .f32⟩
  | 115 => ⟨S2x2048x32, .f32⟩
  | 116 => ⟨S_, .f32⟩
  | 117 => ⟨S2x2048x32, .f32⟩
  | 118 => ⟨S2x2048x32, .f32⟩
  | 119 => ⟨S2x2048x32, .f32⟩
  | 120 => ⟨S2x2048x32, .f32⟩
  | 121 => ⟨S2x2048x32, .f32⟩
  | 122 => ⟨S_, .f32⟩
  | 123 => ⟨S2x2048x32, .f32⟩
  | 124 => ⟨S2x2048x32, .f32⟩
  | 125 => ⟨S2x2048x32, .f32⟩
  | 126 => ⟨S2x2048x32, .f32⟩
  | 127 => ⟨S2x2048x32, .f32⟩
  | _ => ⟨S2x2048x256, .f32⟩

abbrev hbmTy0_6 (i : Nat) : BufTy := match i % 128 with
  | 0 => ⟨S2x2048x32, .f32⟩
  | 1 => ⟨S_, .f32⟩
  | 2 => ⟨S2x2048x32, .f32⟩
  | 3 => ⟨S2x2048x32, .f32⟩
  | 4 => ⟨S2x2048x32, .f32⟩
  | 5 => ⟨S2x2048x32, .f32⟩
  | 6 => ⟨S2x2048x32, .f32⟩
  | 7 => ⟨S2x2048x32, .f32⟩
  | 8 => ⟨S2x2048x32, .f32⟩
  | 9 => ⟨S_, .f32⟩
  | 10 => ⟨S2x2048x32, .f32⟩
  | 11 => ⟨S2x2048x32, .f32⟩
  | 12 => ⟨S2x2048x32, .f32⟩
  | 13 => ⟨S2x2048x32, .f32⟩
  | 14 => ⟨S2x2048x32, .f32⟩
  | 15 => ⟨S2x2048x32, .f32⟩
  | 16 => ⟨S2x2048x32, .f32⟩
  | 17 => ⟨S2x2048x32, .f32⟩
  | 18 => ⟨S_, .f32⟩
  | 19 => ⟨S2x2048x32, .f32⟩
  | 20 => ⟨S2x2048x32, .f32⟩
  | 21 => ⟨S2x2048x32, .f32⟩
  | 22 => ⟨S2x2048x256, .f32⟩
  | 23 => ⟨S_, .f32⟩
  | 24 => ⟨S2x2048x32, .f32⟩
  | 25 => ⟨S2x2048x32, .f32⟩
  | 26 => ⟨S2x2048x32, .f32⟩
  | 27 => ⟨S_, .f32⟩
  | 28 => ⟨S2x2048x32, .f32⟩
  | 29 => ⟨S2x2048x32, .f32⟩
  | 30 => ⟨S2x2048x32, .f32⟩
  | 31 => ⟨S2x2048x32, .f32⟩
  | 32 => ⟨S_, .f32⟩
  | 33 => ⟨S2x2048x32, .f32⟩
  | 34 => ⟨S2x2048x32, .f32⟩
  | 35 => ⟨S2x2048x32, .f32⟩
  | 36 => ⟨S_, .f32⟩
  | 37 => ⟨S2x2048x32, .f32⟩
  | 38 => ⟨S2x2048x32, .f32⟩
  | 39 => ⟨S2x2048x32, .f32⟩
  | 40 => ⟨S2x2048x32, .f32⟩
  | 41 => ⟨S2x2048x32, .f32⟩
  | 42 => ⟨S_, .f32⟩
  | 43 => ⟨S2x2048x32, .f32⟩
  | 44 => ⟨S2x2048x32, .f32⟩
  | 45 => ⟨S2x2048x32, .f32⟩
  | 46 => ⟨S2x2048x32, .f32⟩
  | 47 => ⟨S2x2048x32, .f32⟩
  | 48 => ⟨S2x2048x32, .f32⟩
  | 49 => ⟨S_, .f32⟩
  | 50 => ⟨S2x2048x32, .f32⟩
  | 51 => ⟨S2x2048x32, .f32⟩
  | 52 => ⟨S2x2048x32, .f32⟩
  | 53 => ⟨S2x2048x32, .f32⟩
  | 54 => ⟨S2x2048x32, .f32⟩
  | 55 => ⟨S2x2048x32, .f32⟩
  | 56 => ⟨S2x2048x32, .f32⟩
  | 57 => ⟨S_, .f32⟩
  | 58 => ⟨S2x2048x32, .f32⟩
  | 59 => ⟨S2x2048x32, .f32⟩
  | 60 => ⟨S2x2048x32, .f32⟩
  | 61 => ⟨S2x2048x32, .f32⟩
  | 62 => ⟨S2x2048x32, .f32⟩
  | 63 => ⟨S2x2048x32, .f32⟩
  | 64 => ⟨S2x2048x32, .f32⟩
  | 65 => ⟨S2x2048x32, .f32⟩
  | 66 => ⟨S_, .f32⟩
  | 67 => ⟨S2x2048x32, .f32⟩
  | 68 => ⟨S2x2048x32, .f32⟩
  | 69 => ⟨S2x2048x32, .f32⟩
  | 70 => ⟨S2x2048x256, .f32⟩
  | 71 => ⟨S2x2048x256, .f32⟩
  | 72 => ⟨S2x2048x1, .f32⟩
  | 73 => ⟨S_, .f32⟩
  | 74 => ⟨S2x2048x1, .f32⟩
  | 75 => ⟨S2x2048x1, .f32⟩
  | 76 => ⟨S2x2048x256, .f32⟩
  | 77 => ⟨S2x2048x256, .f32⟩
  | 78 => ⟨S2x2048x256, .f32⟩
  | 79 => ⟨S_, .f32⟩
  | 80 => ⟨S2x2048, .f32⟩
  | 81 => ⟨S2x2048x1, .f32⟩
  | 82 => ⟨S_, .f32⟩
  | 83 => ⟨S2x2048x1, .f32⟩
  | 84 => ⟨S2x2048x1, .f32⟩
  | 85 => ⟨S_, .i32⟩
  | 86 => ⟨S_, .f32⟩
  | 87 => ⟨S2x2048, .f32⟩
  | 88 => ⟨S2x2048x1, .f32⟩
  | 89 => ⟨S_, .f32⟩
  | 90 => ⟨S2x2048x1, .f32⟩
  | 91 => ⟨S2x2048x1, .f32⟩
  | 92 => ⟨S2x2048x256, .f32⟩
  | 93 => ⟨S2x2048x256, .f32⟩
  | 94 => ⟨S2x2048x256, .f32⟩
  | 95 => ⟨S_, .f32⟩
  | 96 => ⟨S_, .f32⟩
  | 97 => ⟨S_, .f32⟩
  | 98 => ⟨S_, .f32⟩
  | 99 => ⟨S2x2048, .f32⟩
  | 100 => ⟨S2x2048x1, .f32⟩
  | 101 => ⟨S2x2048x1, .f32⟩
  | 102 => ⟨S2x2048x1, .f32⟩
  | 103 => ⟨S_, .f32⟩
  | 104 => ⟨S_, .i1⟩
  | 105 => ⟨S_, .f32⟩
  | 106 => ⟨S_, .f32⟩
  | 107 => ⟨S2x2048x1, .f32⟩
  | 108 => ⟨S2x2048x1, .f32⟩
  | 109 => ⟨S2x2048x256, .f32⟩
  | 110 => ⟨S2x2048x256, .f32⟩
  | 111 => ⟨S_, .f32⟩
  | 112 => ⟨S2x2048x1, .f32⟩
  | 113 => ⟨S2x2048x1, .f32⟩
  | 114 => ⟨S2x2048x1, .f32⟩
  | 115 => ⟨S2x2048x256, .f32⟩
  | 116 => ⟨S2x2048x256, .f32⟩
  | 117 => ⟨S1x1x256, .f32⟩
  | 118 => ⟨S2x2048x256, .f32⟩
  | 119 => ⟨S2x2048x256, .f32⟩
  | 120 => ⟨S1x1x256, .f32⟩
  | 121 => ⟨S2x2048x256, .f32⟩
  | 122 => ⟨S2x2048x256, .f32⟩
  | 123 => ⟨S256x256, .f32⟩
  | 124 => ⟨S2x2048x256, .f32⟩
  | 125 => ⟨S2x2048x256, .f32⟩
  | 126 => ⟨S1x1x256, .f32⟩
  | 127 => ⟨S2x2048x256, .f32⟩
  | _ => ⟨S2x2048x256, .f32⟩

abbrev hbmTy0_7 (i : Nat) : BufTy := match i % 128 with
  | 0 => ⟨S2x2048x256, .f32⟩
  | _ => ⟨S2x2048x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x2048x256, .f32⟩

abbrev bufTy : (tb : Table) → Fin (tcTables nBuf tb) → BufTy
  | .hbm, ⟨i, _⟩ => hbmTy i
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_5 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_8 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_9 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_13 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_14 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_15 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call2_call0_cst : Ref sig .tc := ⟨.hbm, 134, rfl⟩
abbrev main_call2_call0_v0 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_call3_call0_cst : Ref sig .tc := ⟨.hbm, 142, rfl⟩
abbrev main_call3_call0_v0 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_16 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_17 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_18 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_19 : Ref sig .tc := ⟨.hbm, 175, rfl⟩
abbrev main_v125 : Ref sig .tc := ⟨.hbm, 176, rfl⟩
abbrev main_v126 : Ref sig .tc := ⟨.hbm, 177, rfl⟩
abbrev main_cst_20 : Ref sig .tc := ⟨.hbm, 178, rfl⟩
abbrev main_v127 : Ref sig .tc := ⟨.hbm, 179, rfl⟩
abbrev main_v128 : Ref sig .tc := ⟨.hbm, 180, rfl⟩
abbrev main_cst_21 : Ref sig .tc := ⟨.hbm, 181, rfl⟩
abbrev main_v129 : Ref sig .tc := ⟨.hbm, 182, rfl⟩
abbrev main_v130 : Ref sig .tc := ⟨.hbm, 183, rfl⟩
abbrev main_cst_22 : Ref sig .tc := ⟨.hbm, 184, rfl⟩
abbrev main_v131 : Ref sig .tc := ⟨.hbm, 185, rfl⟩
abbrev main_v132 : Ref sig .tc := ⟨.hbm, 186, rfl⟩
abbrev main_cst_23 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_24 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_25 : Ref sig .tc := ⟨.hbm, 196, rfl⟩
abbrev main_v140 : Ref sig .tc := ⟨.hbm, 197, rfl⟩
abbrev main_v141 : Ref sig .tc := ⟨.hbm, 198, rfl⟩
abbrev main_cst_26 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_27 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_28 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_29 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_30 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_31 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_cst_32 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_33 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_cst_34 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_cst_35 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_cst_36 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_cst_37 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_cst_38 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_cst_39 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_cst_40 : Ref sig .tc := ⟨.hbm, 284, rfl⟩
abbrev main_v213 : Ref sig .tc := ⟨.hbm, 285, rfl⟩
abbrev main_cst_41 : Ref sig .tc := ⟨.hbm, 286, rfl⟩
abbrev main_v214 : Ref sig .tc := ⟨.hbm, 287, rfl⟩
abbrev main_v215 : Ref sig .tc := ⟨.hbm, 288, rfl⟩
abbrev main_cst_42 : Ref sig .tc := ⟨.hbm, 289, rfl⟩
abbrev main_v216 : Ref sig .tc := ⟨.hbm, 290, rfl⟩
abbrev main_v217 : Ref sig .tc := ⟨.hbm, 291, rfl⟩
abbrev main_cst_43 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_cst_44 : Ref sig .tc := ⟨.hbm, 296, rfl⟩
abbrev main_v221 : Ref sig .tc := ⟨.hbm, 297, rfl⟩
abbrev main_v222 : Ref sig .tc := ⟨.hbm, 298, rfl⟩
abbrev main_cst_45 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_cst_46 : Ref sig .tc := ⟨.hbm, 303, rfl⟩
abbrev main_v226 : Ref sig .tc := ⟨.hbm, 304, rfl⟩
abbrev main_v227 : Ref sig .tc := ⟨.hbm, 305, rfl⟩
abbrev main_cst_47 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_cst_48 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_cst_49 : Ref sig .tc := ⟨.hbm, 337, rfl⟩
abbrev main_v257 : Ref sig .tc := ⟨.hbm, 338, rfl⟩
abbrev main_v258 : Ref sig .tc := ⟨.hbm, 339, rfl⟩
abbrev main_cst_50 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_cst_51 : Ref sig .tc := ⟨.hbm, 344, rfl⟩
abbrev main_v262 : Ref sig .tc := ⟨.hbm, 345, rfl⟩
abbrev main_v263 : Ref sig .tc := ⟨.hbm, 346, rfl⟩
abbrev main_cst_52 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_cst_53 : Ref sig .tc := ⟨.hbm, 351, rfl⟩
abbrev main_v267 : Ref sig .tc := ⟨.hbm, 352, rfl⟩
abbrev main_v268 : Ref sig .tc := ⟨.hbm, 353, rfl⟩
abbrev main_cst_54 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_cst_55 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_cst_56 : Ref sig .tc := ⟨.hbm, 385, rfl⟩
abbrev main_v298 : Ref sig .tc := ⟨.hbm, 386, rfl⟩
abbrev main_v299 : Ref sig .tc := ⟨.hbm, 387, rfl⟩
abbrev main_cst_57 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_cst_58 : Ref sig .tc := ⟨.hbm, 392, rfl⟩
abbrev main_v303 : Ref sig .tc := ⟨.hbm, 393, rfl⟩
abbrev main_v304 : Ref sig .tc := ⟨.hbm, 394, rfl⟩
abbrev main_cst_59 : Ref sig .tc := ⟨.hbm, 395, rfl⟩
abbrev main_v305 : Ref sig .tc := ⟨.hbm, 396, rfl⟩
abbrev main_v306 : Ref sig .tc := ⟨.hbm, 397, rfl⟩
abbrev main_v307 : Ref sig .tc := ⟨.hbm, 398, rfl⟩
abbrev main_cst_60 : Ref sig .tc := ⟨.hbm, 399, rfl⟩
abbrev main_v308 : Ref sig .tc := ⟨.hbm, 400, rfl⟩
abbrev main_v309 : Ref sig .tc := ⟨.hbm, 401, rfl⟩
abbrev main_cst_61 : Ref sig .tc := ⟨.hbm, 402, rfl⟩
abbrev main_v310 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_cst_62 : Ref sig .tc := ⟨.hbm, 425, rfl⟩
abbrev main_v332 : Ref sig .tc := ⟨.hbm, 426, rfl⟩
abbrev main_v333 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_v337 : Ref sig .tc := ⟨.hbm, 431, rfl⟩
abbrev main_v338 : Ref sig .tc := ⟨.hbm, 432, rfl⟩
abbrev main_cst_63 : Ref sig .tc := ⟨.hbm, 433, rfl⟩
abbrev main_v339 : Ref sig .tc := ⟨.hbm, 434, rfl⟩
abbrev main_v340 : Ref sig .tc := ⟨.hbm, 435, rfl⟩
abbrev main_cst_64 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_cst_65 : Ref sig .tc := ⟨.hbm, 440, rfl⟩
abbrev main_v344 : Ref sig .tc := ⟨.hbm, 441, rfl⟩
abbrev main_v345 : Ref sig .tc := ⟨.hbm, 442, rfl⟩
abbrev main_cst_66 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_cst_67 : Ref sig .tc := ⟨.hbm, 447, rfl⟩
abbrev main_v349 : Ref sig .tc := ⟨.hbm, 448, rfl⟩
abbrev main_v350 : Ref sig .tc := ⟨.hbm, 449, rfl⟩
abbrev main_cst_68 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_v357 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_v361 : Ref sig .tc := ⟨.hbm, 461, rfl⟩
abbrev main_v362 : Ref sig .tc := ⟨.hbm, 462, rfl⟩
abbrev main_v363 : Ref sig .tc := ⟨.hbm, 463, rfl⟩
abbrev main_v364 : Ref sig .tc := ⟨.hbm, 464, rfl⟩
abbrev main_v365 : Ref sig .tc := ⟨.hbm, 465, rfl⟩
abbrev main_v366 : Ref sig .tc := ⟨.hbm, 466, rfl⟩
abbrev main_v367 : Ref sig .tc := ⟨.hbm, 467, rfl⟩
abbrev main_v368 : Ref sig .tc := ⟨.hbm, 468, rfl⟩
abbrev main_v369 : Ref sig .tc := ⟨.hbm, 469, rfl⟩
abbrev main_v370 : Ref sig .tc := ⟨.hbm, 470, rfl⟩
abbrev main_v371 : Ref sig .tc := ⟨.hbm, 471, rfl⟩
abbrev main_v372 : Ref sig .tc := ⟨.hbm, 472, rfl⟩
abbrev main_cst_69 : Ref sig .tc := ⟨.hbm, 473, rfl⟩
abbrev main_v373 : Ref sig .tc := ⟨.hbm, 474, rfl⟩
abbrev main_v374 : Ref sig .tc := ⟨.hbm, 475, rfl⟩
abbrev main_v375 : Ref sig .tc := ⟨.hbm, 476, rfl⟩
abbrev main_v376 : Ref sig .tc := ⟨.hbm, 477, rfl⟩
abbrev main_v377 : Ref sig .tc := ⟨.hbm, 478, rfl⟩
abbrev main_v378 : Ref sig .tc := ⟨.hbm, 479, rfl⟩
abbrev main_v379 : Ref sig .tc := ⟨.hbm, 480, rfl⟩
abbrev main_cst_70 : Ref sig .tc := ⟨.hbm, 481, rfl⟩
abbrev main_v380 : Ref sig .tc := ⟨.hbm, 482, rfl⟩
abbrev main_v381 : Ref sig .tc := ⟨.hbm, 483, rfl⟩
abbrev main_cst_71 : Ref sig .tc := ⟨.hbm, 484, rfl⟩
abbrev main_v382 : Ref sig .tc := ⟨.hbm, 485, rfl⟩
abbrev main_v383 : Ref sig .tc := ⟨.hbm, 486, rfl⟩
abbrev main_v384 : Ref sig .tc := ⟨.hbm, 487, rfl⟩
abbrev main_cst_72 : Ref sig .tc := ⟨.hbm, 488, rfl⟩
abbrev main_v385 : Ref sig .tc := ⟨.hbm, 489, rfl⟩
abbrev main_v386 : Ref sig .tc := ⟨.hbm, 490, rfl⟩
abbrev main_cst_73 : Ref sig .tc := ⟨.hbm, 491, rfl⟩
abbrev main_v387 : Ref sig .tc := ⟨.hbm, 492, rfl⟩
abbrev main_v388 : Ref sig .tc := ⟨.hbm, 493, rfl⟩
abbrev main_v389 : Ref sig .tc := ⟨.hbm, 494, rfl⟩
abbrev main_cst_74 : Ref sig .tc := ⟨.hbm, 495, rfl⟩
abbrev main_v390 : Ref sig .tc := ⟨.hbm, 496, rfl⟩
abbrev main_v391 : Ref sig .tc := ⟨.hbm, 497, rfl⟩
abbrev main_cst_75 : Ref sig .tc := ⟨.hbm, 498, rfl⟩
abbrev main_v392 : Ref sig .tc := ⟨.hbm, 499, rfl⟩
abbrev main_v393 : Ref sig .tc := ⟨.hbm, 500, rfl⟩
abbrev main_v394 : Ref sig .tc := ⟨.hbm, 501, rfl⟩
abbrev main_v395 : Ref sig .tc := ⟨.hbm, 502, rfl⟩
abbrev main_v396 : Ref sig .tc := ⟨.hbm, 503, rfl⟩
abbrev main_v397 : Ref sig .tc := ⟨.hbm, 504, rfl⟩
abbrev main_v398 : Ref sig .tc := ⟨.hbm, 505, rfl⟩
abbrev main_v399 : Ref sig .tc := ⟨.hbm, 506, rfl⟩
abbrev main_v400 : Ref sig .tc := ⟨.hbm, 507, rfl⟩
abbrev main_v401 : Ref sig .tc := ⟨.hbm, 508, rfl⟩
abbrev main_v402 : Ref sig .tc := ⟨.hbm, 509, rfl⟩
abbrev main_v403 : Ref sig .tc := ⟨.hbm, 510, rfl⟩
abbrev main_v404 : Ref sig .tc := ⟨.hbm, 511, rfl⟩
abbrev main_v405 : Ref sig .tc := ⟨.hbm, 512, rfl⟩
abbrev main_v406 : Ref sig .tc := ⟨.hbm, 513, rfl⟩
abbrev main_v407 : Ref sig .tc := ⟨.hbm, 514, rfl⟩
abbrev main_v408 : Ref sig .tc := ⟨.hbm, 515, rfl⟩
abbrev main_v409 : Ref sig .tc := ⟨.hbm, 516, rfl⟩
abbrev main_v410 : Ref sig .tc := ⟨.hbm, 517, rfl⟩
abbrev main_v411 : Ref sig .tc := ⟨.hbm, 518, rfl⟩
abbrev main_v412 : Ref sig .tc := ⟨.hbm, 519, rfl⟩
abbrev main_v413 : Ref sig .tc := ⟨.hbm, 520, rfl⟩
abbrev main_cst_76 : Ref sig .tc := ⟨.hbm, 521, rfl⟩
abbrev main_v414 : Ref sig .tc := ⟨.hbm, 522, rfl⟩
abbrev main_v415 : Ref sig .tc := ⟨.hbm, 523, rfl⟩
abbrev main_v416 : Ref sig .tc := ⟨.hbm, 524, rfl⟩
abbrev main_v417 : Ref sig .tc := ⟨.hbm, 525, rfl⟩
abbrev main_v418 : Ref sig .tc := ⟨.hbm, 526, rfl⟩
abbrev main_v419 : Ref sig .tc := ⟨.hbm, 527, rfl⟩
abbrev main_cst_77 : Ref sig .tc := ⟨.hbm, 528, rfl⟩
abbrev main_v420 : Ref sig .tc := ⟨.hbm, 529, rfl⟩
abbrev main_v421 : Ref sig .tc := ⟨.hbm, 530, rfl⟩
abbrev main_v422 : Ref sig .tc := ⟨.hbm, 531, rfl⟩
abbrev main_v423 : Ref sig .tc := ⟨.hbm, 532, rfl⟩
abbrev main_cst_78 : Ref sig .tc := ⟨.hbm, 533, rfl⟩
abbrev main_v424 : Ref sig .tc := ⟨.hbm, 534, rfl⟩
abbrev main_cst_79 : Ref sig .tc := ⟨.hbm, 535, rfl⟩
abbrev main_v425 : Ref sig .tc := ⟨.hbm, 536, rfl⟩
abbrev main_v426 : Ref sig .tc := ⟨.hbm, 537, rfl⟩
abbrev main_v427 : Ref sig .tc := ⟨.hbm, 538, rfl⟩
abbrev main_v428 : Ref sig .tc := ⟨.hbm, 539, rfl⟩
abbrev main_v429 : Ref sig .tc := ⟨.hbm, 540, rfl⟩
abbrev main_v430 : Ref sig .tc := ⟨.hbm, 541, rfl⟩
abbrev main_v431 : Ref sig .tc := ⟨.hbm, 542, rfl⟩
abbrev main_v432 : Ref sig .tc := ⟨.hbm, 543, rfl⟩
abbrev main_cst_80 : Ref sig .tc := ⟨.hbm, 544, rfl⟩
abbrev main_v433 : Ref sig .tc := ⟨.hbm, 545, rfl⟩
abbrev main_v434 : Ref sig .tc := ⟨.hbm, 546, rfl⟩
abbrev main_v435 : Ref sig .tc := ⟨.hbm, 547, rfl⟩
abbrev main_v436 : Ref sig .tc := ⟨.hbm, 548, rfl⟩
abbrev main_v437 : Ref sig .tc := ⟨.hbm, 549, rfl⟩
abbrev main_v438 : Ref sig .tc := ⟨.hbm, 550, rfl⟩
abbrev main_v439 : Ref sig .tc := ⟨.hbm, 551, rfl⟩
abbrev main_v440 : Ref sig .tc := ⟨.hbm, 552, rfl⟩
abbrev main_v441 : Ref sig .tc := ⟨.hbm, 553, rfl⟩
abbrev main_v442 : Ref sig .tc := ⟨.hbm, 554, rfl⟩
abbrev main_v443 : Ref sig .tc := ⟨.hbm, 555, rfl⟩
abbrev main_v444 : Ref sig .tc := ⟨.hbm, 556, rfl⟩
abbrev main_cst_81 : Ref sig .tc := ⟨.hbm, 557, rfl⟩
abbrev main_v445 : Ref sig .tc := ⟨.hbm, 558, rfl⟩
abbrev main_v446 : Ref sig .tc := ⟨.hbm, 559, rfl⟩
abbrev main_v447 : Ref sig .tc := ⟨.hbm, 560, rfl⟩
abbrev main_cst_82 : Ref sig .tc := ⟨.hbm, 561, rfl⟩
abbrev main_v448 : Ref sig .tc := ⟨.hbm, 562, rfl⟩
abbrev main_v449 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_v453 : Ref sig .tc := ⟨.hbm, 567, rfl⟩
abbrev main_v454 : Ref sig .tc := ⟨.hbm, 568, rfl⟩
abbrev main_v455 : Ref sig .tc := ⟨.hbm, 569, rfl⟩
abbrev main_v456 : Ref sig .tc := ⟨.hbm, 570, rfl⟩
abbrev main_v457 : Ref sig .tc := ⟨.hbm, 571, rfl⟩
abbrev main_v458 : Ref sig .tc := ⟨.hbm, 572, rfl⟩
abbrev main_cst_83 : Ref sig .tc := ⟨.hbm, 573, rfl⟩
abbrev main_v459 : Ref sig .tc := ⟨.hbm, 574, rfl⟩
abbrev main_v460 : Ref sig .tc := ⟨.hbm, 575, rfl⟩
abbrev main_cst_84 : Ref sig .tc := ⟨.hbm, 576, rfl⟩
abbrev main_v461 : Ref sig .tc := ⟨.hbm, 577, rfl⟩
abbrev main_v462 : Ref sig .tc := ⟨.hbm, 578, rfl⟩
abbrev main_v463 : Ref sig .tc := ⟨.hbm, 579, rfl⟩
abbrev main_v464 : Ref sig .tc := ⟨.hbm, 580, rfl⟩
abbrev main_v465 : Ref sig .tc := ⟨.hbm, 581, rfl⟩
abbrev main_v466 : Ref sig .tc := ⟨.hbm, 582, rfl⟩
abbrev main_v467 : Ref sig .tc := ⟨.hbm, 583, rfl⟩
abbrev main_call6_call0_cst : Ref sig .tc := ⟨.hbm, 584, rfl⟩
abbrev main_call6_call0_v0 : Ref sig .tc := ⟨.hbm, 585, rfl⟩
abbrev main_v468 : Ref sig .tc := ⟨.hbm, 586, rfl⟩
abbrev main_v469 : Ref sig .tc := ⟨.hbm, 587, rfl⟩
abbrev main_cst_85 : Ref sig .tc := ⟨.hbm, 588, rfl⟩
abbrev main_v470 : Ref sig .tc := ⟨.hbm, 589, rfl⟩
abbrev main_v471 : Ref sig .tc := ⟨.hbm, 590, rfl⟩
abbrev main_v472 : Ref sig .tc := ⟨.hbm, 591, rfl⟩
abbrev main_v473 : Ref sig .tc := ⟨.hbm, 592, rfl⟩
abbrev main_v474 : Ref sig .tc := ⟨.hbm, 593, rfl⟩
abbrev main_v475 : Ref sig .tc := ⟨.hbm, 594, rfl⟩
abbrev main_v476 : Ref sig .tc := ⟨.hbm, 595, rfl⟩
abbrev main_v477 : Ref sig .tc := ⟨.hbm, 596, rfl⟩
abbrev main_v478 : Ref sig .tc := ⟨.hbm, 597, rfl⟩
abbrev main_v479 : Ref sig .tc := ⟨.hbm, 598, rfl⟩
abbrev main_v480 : Ref sig .tc := ⟨.hbm, 599, rfl⟩
abbrev main_cst_86 : Ref sig .tc := ⟨.hbm, 600, rfl⟩
abbrev main_v481 : Ref sig .tc := ⟨.hbm, 601, rfl⟩
abbrev main_v482 : Ref sig .tc := ⟨.hbm, 602, rfl⟩
abbrev main_v483 : Ref sig .tc := ⟨.hbm, 603, rfl⟩
abbrev main_cst_87 : Ref sig .tc := ⟨.hbm, 604, rfl⟩
abbrev main_v484 : Ref sig .tc := ⟨.hbm, 605, rfl⟩
abbrev main_v485 : Ref sig .tc := ⟨.hbm, 606, rfl⟩
abbrev main_v486 : Ref sig .tc := ⟨.hbm, 607, rfl⟩
abbrev main_v487 : Ref sig .tc := ⟨.hbm, 608, rfl⟩
abbrev main_v488 : Ref sig .tc := ⟨.hbm, 609, rfl⟩
abbrev main_v489 : Ref sig .tc := ⟨.hbm, 610, rfl⟩
abbrev main_v490 : Ref sig .tc := ⟨.hbm, 611, rfl⟩
abbrev main_v491 : Ref sig .tc := ⟨.hbm, 612, rfl⟩
abbrev main_v492 : Ref sig .tc := ⟨.hbm, 613, rfl⟩
abbrev main_v493 : Ref sig .tc := ⟨.hbm, 614, rfl⟩
abbrev main_cst_88 : Ref sig .tc := ⟨.hbm, 615, rfl⟩
abbrev main_v494 : Ref sig .tc := ⟨.hbm, 616, rfl⟩
abbrev main_v495 : Ref sig .tc := ⟨.hbm, 617, rfl⟩
abbrev main_v496 : Ref sig .tc := ⟨.hbm, 618, rfl⟩
abbrev main_v497 : Ref sig .tc := ⟨.hbm, 619, rfl⟩
abbrev main_cst_89 : Ref sig .tc := ⟨.hbm, 620, rfl⟩
abbrev main_v498 : Ref sig .tc := ⟨.hbm, 621, rfl⟩
abbrev main_v499 : Ref sig .tc := ⟨.hbm, 622, rfl⟩
abbrev main_v500 : Ref sig .tc := ⟨.hbm, 623, rfl⟩
abbrev main_cst_90 : Ref sig .tc := ⟨.hbm, 624, rfl⟩
abbrev main_v501 : Ref sig .tc := ⟨.hbm, 625, rfl⟩
abbrev main_v502 : Ref sig .tc := ⟨.hbm, 626, rfl⟩
abbrev main_v503 : Ref sig .tc := ⟨.hbm, 627, rfl⟩
abbrev main_v504 : Ref sig .tc := ⟨.hbm, 628, rfl⟩
abbrev main_cst_91 : Ref sig .tc := ⟨.hbm, 629, rfl⟩
abbrev main_v505 : Ref sig .tc := ⟨.hbm, 630, rfl⟩
abbrev main_v506 : Ref sig .tc := ⟨.hbm, 631, rfl⟩
abbrev main_cst_92 : Ref sig .tc := ⟨.hbm, 632, rfl⟩
abbrev main_v507 : Ref sig .tc := ⟨.hbm, 633, rfl⟩
abbrev main_v508 : Ref sig .tc := ⟨.hbm, 634, rfl⟩
abbrev main_v509 : Ref sig .tc := ⟨.hbm, 635, rfl⟩
abbrev main_cst_93 : Ref sig .tc := ⟨.hbm, 636, rfl⟩
abbrev main_v510 : Ref sig .tc := ⟨.hbm, 637, rfl⟩
abbrev main_v511 : Ref sig .tc := ⟨.hbm, 638, rfl⟩
abbrev main_v512 : Ref sig .tc := ⟨.hbm, 639, rfl⟩
abbrev main_v513 : Ref sig .tc := ⟨.hbm, 640, rfl⟩
abbrev main_v514 : Ref sig .tc := ⟨.hbm, 641, rfl⟩
abbrev main_cst_94 : Ref sig .tc := ⟨.hbm, 642, rfl⟩
abbrev main_v515 : Ref sig .tc := ⟨.hbm, 643, rfl⟩
abbrev main_v516 : Ref sig .tc := ⟨.hbm, 644, rfl⟩
abbrev main_v517 : Ref sig .tc := ⟨.hbm, 645, rfl⟩
abbrev main_v518 : Ref sig .tc := ⟨.hbm, 646, rfl⟩
abbrev main_v519 : Ref sig .tc := ⟨.hbm, 647, rfl⟩
abbrev main_v520 : Ref sig .tc := ⟨.hbm, 648, rfl⟩
abbrev main_cst_95 : Ref sig .tc := ⟨.hbm, 649, rfl⟩
abbrev main_v521 : Ref sig .tc := ⟨.hbm, 650, rfl⟩
abbrev main_v522 : Ref sig .tc := ⟨.hbm, 651, rfl⟩
abbrev main_v523 : Ref sig .tc := ⟨.hbm, 652, rfl⟩
abbrev main_v524 : Ref sig .tc := ⟨.hbm, 653, rfl⟩
abbrev main_v525 : Ref sig .tc := ⟨.hbm, 654, rfl⟩
abbrev main_v526 : Ref sig .tc := ⟨.hbm, 655, rfl⟩
abbrev main_v527 : Ref sig .tc := ⟨.hbm, 656, rfl⟩
abbrev main_cst_96 : Ref sig .tc := ⟨.hbm, 657, rfl⟩
abbrev main_v528 : Ref sig .tc := ⟨.hbm, 658, rfl⟩
abbrev main_v529 : Ref sig .tc := ⟨.hbm, 659, rfl⟩
abbrev main_v530 : Ref sig .tc := ⟨.hbm, 660, rfl⟩
abbrev main_v531 : Ref sig .tc := ⟨.hbm, 661, rfl⟩
abbrev main_v532 : Ref sig .tc := ⟨.hbm, 662, rfl⟩
abbrev main_v533 : Ref sig .tc := ⟨.hbm, 663, rfl⟩
abbrev main_v534 : Ref sig .tc := ⟨.hbm, 664, rfl⟩
abbrev main_v535 : Ref sig .tc := ⟨.hbm, 665, rfl⟩
abbrev main_cst_97 : Ref sig .tc := ⟨.hbm, 666, rfl⟩
abbrev main_v536 : Ref sig .tc := ⟨.hbm, 667, rfl⟩
abbrev main_v537 : Ref sig .tc := ⟨.hbm, 668, rfl⟩
abbrev main_v538 : Ref sig .tc := ⟨.hbm, 669, rfl⟩
abbrev main_v539 : Ref sig .tc := ⟨.hbm, 670, rfl⟩
abbrev main_v540 : Ref sig .tc := ⟨.hbm, 671, rfl⟩
abbrev main_v541 : Ref sig .tc := ⟨.hbm, 672, rfl⟩
abbrev main_v542 : Ref sig .tc := ⟨.hbm, 673, rfl⟩
abbrev main_v543 : Ref sig .tc := ⟨.hbm, 674, rfl⟩
abbrev main_call8_call0_cst : Ref sig .tc := ⟨.hbm, 675, rfl⟩
abbrev main_call8_call0_v0 : Ref sig .tc := ⟨.hbm, 676, rfl⟩
abbrev main_v544 : Ref sig .tc := ⟨.hbm, 677, rfl⟩
abbrev main_cst_98 : Ref sig .tc := ⟨.hbm, 678, rfl⟩
abbrev main_v545 : Ref sig .tc := ⟨.hbm, 679, rfl⟩
abbrev main_v546 : Ref sig .tc := ⟨.hbm, 680, rfl⟩
abbrev main_v547 : Ref sig .tc := ⟨.hbm, 681, rfl⟩
abbrev main_cst_99 : Ref sig .tc := ⟨.hbm, 682, rfl⟩
abbrev main_v548 : Ref sig .tc := ⟨.hbm, 683, rfl⟩
abbrev main_v549 : Ref sig .tc := ⟨.hbm, 684, rfl⟩
abbrev main_v550 : Ref sig .tc := ⟨.hbm, 685, rfl⟩
abbrev main_v551 : Ref sig .tc := ⟨.hbm, 686, rfl⟩
abbrev main_cst_100 : Ref sig .tc := ⟨.hbm, 687, rfl⟩
abbrev main_v552 : Ref sig .tc := ⟨.hbm, 688, rfl⟩
abbrev main_v553 : Ref sig .tc := ⟨.hbm, 689, rfl⟩
abbrev main_v554 : Ref sig .tc := ⟨.hbm, 690, rfl⟩
abbrev main_cst_101 : Ref sig .tc := ⟨.hbm, 691, rfl⟩
abbrev main_v555 : Ref sig .tc := ⟨.hbm, 692, rfl⟩
abbrev main_v556 : Ref sig .tc := ⟨.hbm, 693, rfl⟩
abbrev main_v557 : Ref sig .tc := ⟨.hbm, 694, rfl⟩
abbrev main_v558 : Ref sig .tc := ⟨.hbm, 695, rfl⟩
abbrev main_v559 : Ref sig .tc := ⟨.hbm, 696, rfl⟩
abbrev main_cst_102 : Ref sig .tc := ⟨.hbm, 697, rfl⟩
abbrev main_v560 : Ref sig .tc := ⟨.hbm, 698, rfl⟩
abbrev main_v561 : Ref sig .tc := ⟨.hbm, 699, rfl⟩
abbrev main_v562 : Ref sig .tc := ⟨.hbm, 700, rfl⟩
abbrev main_v563 : Ref sig .tc := ⟨.hbm, 701, rfl⟩
abbrev main_v564 : Ref sig .tc := ⟨.hbm, 702, rfl⟩
abbrev main_v565 : Ref sig .tc := ⟨.hbm, 703, rfl⟩
abbrev main_cst_103 : Ref sig .tc := ⟨.hbm, 704, rfl⟩
abbrev main_v566 : Ref sig .tc := ⟨.hbm, 705, rfl⟩
abbrev main_v567 : Ref sig .tc := ⟨.hbm, 706, rfl⟩
abbrev main_v568 : Ref sig .tc := ⟨.hbm, 707, rfl⟩
abbrev main_v569 : Ref sig .tc := ⟨.hbm, 708, rfl⟩
abbrev main_v570 : Ref sig .tc := ⟨.hbm, 709, rfl⟩
abbrev main_v571 : Ref sig .tc := ⟨.hbm, 710, rfl⟩
abbrev main_v572 : Ref sig .tc := ⟨.hbm, 711, rfl⟩
abbrev main_cst_104 : Ref sig .tc := ⟨.hbm, 712, rfl⟩
abbrev main_v573 : Ref sig .tc := ⟨.hbm, 713, rfl⟩
abbrev main_v574 : Ref sig .tc := ⟨.hbm, 714, rfl⟩
abbrev main_v575 : Ref sig .tc := ⟨.hbm, 715, rfl⟩
abbrev main_v576 : Ref sig .tc := ⟨.hbm, 716, rfl⟩
abbrev main_v577 : Ref sig .tc := ⟨.hbm, 717, rfl⟩
abbrev main_v578 : Ref sig .tc := ⟨.hbm, 718, rfl⟩
abbrev main_v579 : Ref sig .tc := ⟨.hbm, 719, rfl⟩
abbrev main_v580 : Ref sig .tc := ⟨.hbm, 720, rfl⟩
abbrev main_cst_105 : Ref sig .tc := ⟨.hbm, 721, rfl⟩
abbrev main_v581 : Ref sig .tc := ⟨.hbm, 722, rfl⟩
abbrev main_v582 : Ref sig .tc := ⟨.hbm, 723, rfl⟩
abbrev main_v583 : Ref sig .tc := ⟨.hbm, 724, rfl⟩
abbrev main_v584 : Ref sig .tc := ⟨.hbm, 725, rfl⟩
abbrev main_v585 : Ref sig .tc := ⟨.hbm, 726, rfl⟩
abbrev main_v586 : Ref sig .tc := ⟨.hbm, 727, rfl⟩
abbrev main_v587 : Ref sig .tc := ⟨.hbm, 728, rfl⟩
abbrev main_v588 : Ref sig .tc := ⟨.hbm, 729, rfl⟩
abbrev main_call10_call0_cst : Ref sig .tc := ⟨.hbm, 730, rfl⟩
abbrev main_call10_call0_v0 : Ref sig .tc := ⟨.hbm, 731, rfl⟩
abbrev main_v589 : Ref sig .tc := ⟨.hbm, 732, rfl⟩
abbrev main_call11_call0_cst : Ref sig .tc := ⟨.hbm, 733, rfl⟩
abbrev main_call11_call0_v0 : Ref sig .tc := ⟨.hbm, 734, rfl⟩
abbrev main_v590 : Ref sig .tc := ⟨.hbm, 735, rfl⟩
abbrev main_cst_106 : Ref sig .tc := ⟨.hbm, 736, rfl⟩
abbrev main_call12_v0 : Ref sig .tc := ⟨.hbm, 737, rfl⟩
abbrev main_call12_v1 : Ref sig .tc := ⟨.hbm, 738, rfl⟩
abbrev main_v591 : Ref sig .tc := ⟨.hbm, 739, rfl⟩
abbrev main_cst_107 : Ref sig .tc := ⟨.hbm, 740, rfl⟩
abbrev main_v592 : Ref sig .tc := ⟨.hbm, 741, rfl⟩
abbrev main_v593 : Ref sig .tc := ⟨.hbm, 742, rfl⟩
abbrev main_v594 : Ref sig .tc := ⟨.hbm, 743, rfl⟩
abbrev main_cst_108 : Ref sig .tc := ⟨.hbm, 744, rfl⟩
abbrev main_v595 : Ref sig .tc := ⟨.hbm, 745, rfl⟩
abbrev main_v596 : Ref sig .tc := ⟨.hbm, 746, rfl⟩
abbrev main_v597 : Ref sig .tc := ⟨.hbm, 747, rfl⟩
abbrev main_v598 : Ref sig .tc := ⟨.hbm, 748, rfl⟩
abbrev main_cst_109 : Ref sig .tc := ⟨.hbm, 749, rfl⟩
abbrev main_v599 : Ref sig .tc := ⟨.hbm, 750, rfl⟩
abbrev main_v600 : Ref sig .tc := ⟨.hbm, 751, rfl⟩
abbrev main_cst_110 : Ref sig .tc := ⟨.hbm, 752, rfl⟩
abbrev main_v601 : Ref sig .tc := ⟨.hbm, 753, rfl⟩
abbrev main_v602 : Ref sig .tc := ⟨.hbm, 754, rfl⟩
abbrev main_v603 : Ref sig .tc := ⟨.hbm, 755, rfl⟩
abbrev main_cst_111 : Ref sig .tc := ⟨.hbm, 756, rfl⟩
abbrev main_v604 : Ref sig .tc := ⟨.hbm, 757, rfl⟩
abbrev main_v605 : Ref sig .tc := ⟨.hbm, 758, rfl⟩
abbrev main_v606 : Ref sig .tc := ⟨.hbm, 759, rfl⟩
abbrev main_v607 : Ref sig .tc := ⟨.hbm, 760, rfl⟩
abbrev main_v608 : Ref sig .tc := ⟨.hbm, 761, rfl⟩
abbrev main_cst_112 : Ref sig .tc := ⟨.hbm, 762, rfl⟩
abbrev main_v609 : Ref sig .tc := ⟨.hbm, 763, rfl⟩
abbrev main_v610 : Ref sig .tc := ⟨.hbm, 764, rfl⟩
abbrev main_v611 : Ref sig .tc := ⟨.hbm, 765, rfl⟩
abbrev main_v612 : Ref sig .tc := ⟨.hbm, 766, rfl⟩
abbrev main_v613 : Ref sig .tc := ⟨.hbm, 767, rfl⟩
abbrev main_v614 : Ref sig .tc := ⟨.hbm, 768, rfl⟩
abbrev main_cst_113 : Ref sig .tc := ⟨.hbm, 769, rfl⟩
abbrev main_v615 : Ref sig .tc := ⟨.hbm, 770, rfl⟩
abbrev main_v616 : Ref sig .tc := ⟨.hbm, 771, rfl⟩
abbrev main_v617 : Ref sig .tc := ⟨.hbm, 772, rfl⟩
abbrev main_v618 : Ref sig .tc := ⟨.hbm, 773, rfl⟩
abbrev main_v619 : Ref sig .tc := ⟨.hbm, 774, rfl⟩
abbrev main_v620 : Ref sig .tc := ⟨.hbm, 775, rfl⟩
abbrev main_v621 : Ref sig .tc := ⟨.hbm, 776, rfl⟩
abbrev main_cst_114 : Ref sig .tc := ⟨.hbm, 777, rfl⟩
abbrev main_v622 : Ref sig .tc := ⟨.hbm, 778, rfl⟩
abbrev main_v623 : Ref sig .tc := ⟨.hbm, 779, rfl⟩
abbrev main_v624 : Ref sig .tc := ⟨.hbm, 780, rfl⟩
abbrev main_v625 : Ref sig .tc := ⟨.hbm, 781, rfl⟩
abbrev main_v626 : Ref sig .tc := ⟨.hbm, 782, rfl⟩
abbrev main_v627 : Ref sig .tc := ⟨.hbm, 783, rfl⟩
abbrev main_v628 : Ref sig .tc := ⟨.hbm, 784, rfl⟩
abbrev main_v629 : Ref sig .tc := ⟨.hbm, 785, rfl⟩
abbrev main_cst_115 : Ref sig .tc := ⟨.hbm, 786, rfl⟩
abbrev main_v630 : Ref sig .tc := ⟨.hbm, 787, rfl⟩
abbrev main_v631 : Ref sig .tc := ⟨.hbm, 788, rfl⟩
abbrev main_v632 : Ref sig .tc := ⟨.hbm, 789, rfl⟩
abbrev main_v633 : Ref sig .tc := ⟨.hbm, 790, rfl⟩
abbrev main_cst_116 : Ref sig .tc := ⟨.hbm, 791, rfl⟩
abbrev main_v634 : Ref sig .tc := ⟨.hbm, 792, rfl⟩
abbrev main_v635 : Ref sig .tc := ⟨.hbm, 793, rfl⟩
abbrev main_v636 : Ref sig .tc := ⟨.hbm, 794, rfl⟩
abbrev main_cst_117 : Ref sig .tc := ⟨.hbm, 795, rfl⟩
abbrev main_v637 : Ref sig .tc := ⟨.hbm, 796, rfl⟩
abbrev main_v638 : Ref sig .tc := ⟨.hbm, 797, rfl⟩
abbrev main_v639 : Ref sig .tc := ⟨.hbm, 798, rfl⟩
abbrev main_v640 : Ref sig .tc := ⟨.hbm, 799, rfl⟩
abbrev main_cst_118 : Ref sig .tc := ⟨.hbm, 800, rfl⟩
abbrev main_v641 : Ref sig .tc := ⟨.hbm, 801, rfl⟩
abbrev main_v642 : Ref sig .tc := ⟨.hbm, 802, rfl⟩
abbrev main_v643 : Ref sig .tc := ⟨.hbm, 803, rfl⟩
abbrev main_cst_119 : Ref sig .tc := ⟨.hbm, 804, rfl⟩
abbrev main_v644 : Ref sig .tc := ⟨.hbm, 805, rfl⟩
abbrev main_v645 : Ref sig .tc := ⟨.hbm, 806, rfl⟩
abbrev main_v646 : Ref sig .tc := ⟨.hbm, 807, rfl⟩
abbrev main_v647 : Ref sig .tc := ⟨.hbm, 808, rfl⟩
abbrev main_v648 : Ref sig .tc := ⟨.hbm, 809, rfl⟩
abbrev main_cst_120 : Ref sig .tc := ⟨.hbm, 810, rfl⟩
abbrev main_v649 : Ref sig .tc := ⟨.hbm, 811, rfl⟩
abbrev main_v650 : Ref sig .tc := ⟨.hbm, 812, rfl⟩
abbrev main_v651 : Ref sig .tc := ⟨.hbm, 813, rfl⟩
abbrev main_v652 : Ref sig .tc := ⟨.hbm, 814, rfl⟩
abbrev main_v653 : Ref sig .tc := ⟨.hbm, 815, rfl⟩
abbrev main_v654 : Ref sig .tc := ⟨.hbm, 816, rfl⟩
abbrev main_cst_121 : Ref sig .tc := ⟨.hbm, 817, rfl⟩
abbrev main_v655 : Ref sig .tc := ⟨.hbm, 818, rfl⟩
abbrev main_v656 : Ref sig .tc := ⟨.hbm, 819, rfl⟩
abbrev main_v657 : Ref sig .tc := ⟨.hbm, 820, rfl⟩
abbrev main_v658 : Ref sig .tc := ⟨.hbm, 821, rfl⟩
abbrev main_v659 : Ref sig .tc := ⟨.hbm, 822, rfl⟩
abbrev main_v660 : Ref sig .tc := ⟨.hbm, 823, rfl⟩
abbrev main_v661 : Ref sig .tc := ⟨.hbm, 824, rfl⟩
abbrev main_cst_122 : Ref sig .tc := ⟨.hbm, 825, rfl⟩
abbrev main_v662 : Ref sig .tc := ⟨.hbm, 826, rfl⟩
abbrev main_v663 : Ref sig .tc := ⟨.hbm, 827, rfl⟩
abbrev main_v664 : Ref sig .tc := ⟨.hbm, 828, rfl⟩
abbrev main_v665 : Ref sig .tc := ⟨.hbm, 829, rfl⟩
abbrev main_v666 : Ref sig .tc := ⟨.hbm, 830, rfl⟩
abbrev main_v667 : Ref sig .tc := ⟨.hbm, 831, rfl⟩
abbrev main_v668 : Ref sig .tc := ⟨.hbm, 832, rfl⟩
abbrev main_v669 : Ref sig .tc := ⟨.hbm, 833, rfl⟩
abbrev main_cst_123 : Ref sig .tc := ⟨.hbm, 834, rfl⟩
abbrev main_v670 : Ref sig .tc := ⟨.hbm, 835, rfl⟩
abbrev main_v671 : Ref sig .tc := ⟨.hbm, 836, rfl⟩
abbrev main_v672 : Ref sig .tc := ⟨.hbm, 837, rfl⟩
abbrev main_v673 : Ref sig .tc := ⟨.hbm, 838, rfl⟩
abbrev main_v674 : Ref sig .tc := ⟨.hbm, 839, rfl⟩
abbrev main_v675 : Ref sig .tc := ⟨.hbm, 840, rfl⟩
abbrev main_cst_124 : Ref sig .tc := ⟨.hbm, 841, rfl⟩
abbrev main_v676 : Ref sig .tc := ⟨.hbm, 842, rfl⟩
abbrev main_v677 : Ref sig .tc := ⟨.hbm, 843, rfl⟩
abbrev main_v678 : Ref sig .tc := ⟨.hbm, 844, rfl⟩
abbrev main_v679 : Ref sig .tc := ⟨.hbm, 845, rfl⟩
abbrev main_v680 : Ref sig .tc := ⟨.hbm, 846, rfl⟩
abbrev main_cst_125 : Ref sig .tc := ⟨.hbm, 847, rfl⟩
abbrev main_v681 : Ref sig .tc := ⟨.hbm, 848, rfl⟩
abbrev main_v682 : Ref sig .tc := ⟨.hbm, 849, rfl⟩
abbrev main_cst_126 : Ref sig .tc := ⟨.hbm, 850, rfl⟩
abbrev main_v683 : Ref sig .tc := ⟨.hbm, 851, rfl⟩
abbrev main_v684 : Ref sig .tc := ⟨.hbm, 852, rfl⟩
abbrev main_c : Ref sig .tc := ⟨.hbm, 853, rfl⟩
abbrev main_call15_cst : Ref sig .tc := ⟨.hbm, 854, rfl⟩
abbrev main_call15_v0 : Ref sig .tc := ⟨.hbm, 855, rfl⟩
abbrev main_call15_v1 : Ref sig .tc := ⟨.hbm, 856, rfl⟩
abbrev main_call15_cst_0 : Ref sig .tc := ⟨.hbm, 857, rfl⟩
abbrev main_call15_v2 : Ref sig .tc := ⟨.hbm, 858, rfl⟩
abbrev main_call15_v3 : Ref sig .tc := ⟨.hbm, 859, rfl⟩
abbrev main_call15_v4 : Ref sig .tc := ⟨.hbm, 860, rfl⟩
abbrev main_call15_v5 : Ref sig .tc := ⟨.hbm, 861, rfl⟩
abbrev main_call15_v6 : Ref sig .tc := ⟨.hbm, 862, rfl⟩
abbrev main_call15_v7 : Ref sig .tc := ⟨.hbm, 863, rfl⟩
abbrev main_call15_cst_1 : Ref sig .tc := ⟨.hbm, 864, rfl⟩
abbrev main_call15_v8 : Ref sig .tc := ⟨.hbm, 865, rfl⟩
abbrev main_call15_cst_2 : Ref sig .tc := ⟨.hbm, 866, rfl⟩
abbrev main_call15_v9 : Ref sig .tc := ⟨.hbm, 867, rfl⟩
abbrev main_call15_v10 : Ref sig .tc := ⟨.hbm, 868, rfl⟩
abbrev main_call15_v11 : Ref sig .tc := ⟨.hbm, 869, rfl⟩
abbrev main_call15_v12 : Ref sig .tc := ⟨.hbm, 870, rfl⟩
abbrev main_call15_cst_3 : Ref sig .tc := ⟨.hbm, 871, rfl⟩
abbrev main_call15_v13 : Ref sig .tc := ⟨.hbm, 872, rfl⟩
abbrev main_call15_cst_4 : Ref sig .tc := ⟨.hbm, 873, rfl⟩
abbrev main_call15_call0_v0 : Ref sig .tc := ⟨.hbm, 874, rfl⟩
abbrev main_call15_call0_v1 : Ref sig .tc := ⟨.hbm, 875, rfl⟩
abbrev main_v685 : Ref sig .tc := ⟨.hbm, 876, rfl⟩
abbrev main_v686 : Ref sig .tc := ⟨.hbm, 877, rfl⟩
abbrev main_v687 : Ref sig .tc := ⟨.hbm, 878, rfl⟩
abbrev main_cst_127 : Ref sig .tc := ⟨.hbm, 879, rfl⟩
abbrev main_v688 : Ref sig .tc := ⟨.hbm, 880, rfl⟩
abbrev main_v689 : Ref sig .tc := ⟨.hbm, 881, rfl⟩
abbrev main_v690 : Ref sig .tc := ⟨.hbm, 882, rfl⟩
abbrev main_v691 : Ref sig .tc := ⟨.hbm, 883, rfl⟩
abbrev main_v692 : Ref sig .tc := ⟨.hbm, 884, rfl⟩
abbrev main_v693 : Ref sig .tc := ⟨.hbm, 885, rfl⟩
abbrev main_v694 : Ref sig .tc := ⟨.hbm, 886, rfl⟩
abbrev main_v695 : Ref sig .tc := ⟨.hbm, 887, rfl⟩
abbrev main_v696 : Ref sig .tc := ⟨.hbm, 888, rfl⟩
abbrev main_v697 : Ref sig .tc := ⟨.hbm, 889, rfl⟩
abbrev main_v698 : Ref sig .tc := ⟨.hbm, 890, rfl⟩
abbrev main_v699 : Ref sig .tc := ⟨.hbm, 891, rfl⟩
abbrev main_v700 : Ref sig .tc := ⟨.hbm, 892, rfl⟩
abbrev main_v701 : Ref sig .tc := ⟨.hbm, 893, rfl⟩
abbrev main_v702 : Ref sig .tc := ⟨.hbm, 894, rfl⟩
abbrev main_v703 : Ref sig .tc := ⟨.hbm, 895, rfl⟩
abbrev main_v704 : Ref sig .tc := ⟨.hbm, 896, rfl⟩

abbrev nD : Nat := 1
abbrev τ : Topo := Topo.v7x

variable {F : FTy → Type} [FloatOps F]
-- ==== Proof.Lit.lean ====
/- The numbers that the programs' f32 constants denote, and the operations of the ideal instance on reals. -/
module

public import Idealize.ShloMosaic.PureOps.Ideal
public import Idealize.ShloMosaic.PureOps.Ideal.Laws

@[expose] public section

noncomputable section

namespace Cert.Phasor

open Idealize.ShloMosaic
open scoped BigOperators

/-- The real number that an f32 word denotes. -/
def lit (w : BitVec 32) : ℝ := (Ideal.ofBits .f32 w).toReal

/-- An f32 word whose exponent field is not all ones denotes a real number. -/
theorem ofBits_lit (w : BitVec 32) (h : (w.extractLsb' 23 8).toNat ≠ 255) :
    Ideal.ofBits .f32 w = ((lit w : ℝ) : EReal) := by
  have key : ∃ r : ℝ, Ideal.ofBits .f32 w = (r : EReal) := by
    change ∃ r : ℝ, Ideal.ieee 8 23 w = (r : EReal)
    unfold Ideal.ieee
    dsimp only
    rw [if_neg (by simpa using h)]
    split
    · exact ⟨_, rfl⟩
    · exact ⟨_, rfl⟩
  obtain ⟨r, hr⟩ := key
  unfold lit
  rw [hr, EReal.toReal_coe]

/-- A word shown to denote the real `r`. -/
theorem lit_eq {w : BitVec 32} {r : ℝ} (h : Ideal.ofBits .f32 w = (r : EReal)) : lit w = r := by
  unfold lit
  rw [h, EReal.toReal_coe]

theorem lit_zero : lit 0x00000000#32 = 0 := lit_eq (by simp [Ideal.ofBits, Ideal.ieee])

theorem lit_one : lit 0x3F800000#32 = 1 := lit_eq (by
  simp [Ideal.ofBits, Ideal.ieee, -EReal.coe_mul]; norm_num)

theorem lit_two : lit 0x40000000#32 = 2 := lit_eq (by
  simp [Ideal.ofBits, Ideal.ieee, -EReal.coe_mul]; norm_num)

theorem lit_four : lit 0x40800000#32 = 4 := lit_eq (by
  simp [Ideal.ofBits, Ideal.ieee, -EReal.coe_mul]; norm_num)

theorem lit_256 : lit 0x43800000#32 = 256 := lit_eq (by
  simp [Ideal.ofBits, Ideal.ieee, -EReal.coe_mul]; norm_num)

theorem lit_neg_zero : lit 0x80000000#32 = 0 := lit_eq (by simp [Ideal.ofBits, Ideal.ieee])

theorem lit_neg_half : lit 0xBF000000#32 = -(1 / 2) := lit_eq (by
  simp [Ideal.ofBits, Ideal.ieee, -EReal.coe_mul, -EReal.coe_neg]; norm_num)

theorem lit_neg_two : lit 0xC0000000#32 = -2 := lit_eq (by
  simp [Ideal.ofBits, Ideal.ieee, -EReal.coe_mul, -EReal.coe_neg]; norm_num)

theorem lit_pi : lit 0x40490FDB#32 = 13176795 / 4194304 := lit_eq (by
  simp [Ideal.ofBits, Ideal.ieee, -EReal.coe_mul]; norm_num)

theorem lit_two_pi : lit 0x40C90FDB#32 = 13176795 / 2097152 := lit_eq (by
  simp [Ideal.ofBits, Ideal.ieee, -EReal.coe_mul]; norm_num)

theorem lit_sqrt_p : lit 0x40B504F3#32 = 11863283 / 2097152 := lit_eq (by
  simp [Ideal.ofBits, Ideal.ieee, -EReal.coe_mul]; norm_num)

theorem lit_tenth : lit 0x3DCCCCCD#32 = 13421773 / 134217728 := lit_eq (by
  simp [Ideal.ofBits, Ideal.ieee, -EReal.coe_mul]; norm_num)

theorem lit_eps : lit 0x358637BD#32 = 8796093 / 8796093022208 := lit_eq (by
  simp [Ideal.ofBits, Ideal.ieee, -EReal.coe_mul]; norm_num)

theorem lit_ln_eps : lit 0x3727C5AC#32 = 2748779 / 274877906944 := lit_eq (by
  simp [Ideal.ofBits, Ideal.ieee, -EReal.coe_mul]; norm_num)

theorem lit_cos1 : lit 0x3F7EB898#32 = 2086675 / 2097152 := lit_eq (by
  simp [Ideal.ofBits, Ideal.ieee, -EReal.coe_mul]; norm_num)

theorem lit_two_cos1 : lit 0x3FFEB898#32 = 2 * lit 0x3F7EB898#32 := by
  rw [lit_cos1]
  exact lit_eq (by simp [Ideal.ofBits, Ideal.ieee, -EReal.coe_mul]; norm_num)

theorem lit_cos2 : lit 0x3F7AE5A5#32 = 16442789 / 16777216 := lit_eq (by
  simp [Ideal.ofBits, Ideal.ieee, -EReal.coe_mul]; norm_num)

theorem lit_two_cos2 : lit 0x3FFAE5A5#32 = 2 * lit 0x3F7AE5A5#32 := by
  rw [lit_cos2]
  exact lit_eq (by simp [Ideal.ofBits, Ideal.ieee, -EReal.coe_mul]; norm_num)

/-- The words of `-sin 0.1` and `-sin 0.2` are the negatives of those of `sin 0.1` and `sin 0.2`. -/
theorem lit_neg_sin1 : lit 0xBDCC7576#32 = -lit 0x3DCC7576#32 := by
  have h : lit 0x3DCC7576#32 = 6699707 / 67108864 := lit_eq (by
    simp [Ideal.ofBits, Ideal.ieee, -EReal.coe_mul]; norm_num)
  rw [h]
  exact lit_eq (by simp [Ideal.ofBits, Ideal.ieee, -EReal.coe_mul, -EReal.coe_neg]; norm_num)

theorem lit_neg_sin2 : lit 0xBE4B6FF9#32 = -lit 0x3E4B6FF9#32 := by
  have h : lit 0x3E4B6FF9#32 = 13332473 / 67108864 := lit_eq (by
    simp [Ideal.ofBits, Ideal.ieee, -EReal.coe_mul]; norm_num)
  rw [h]
  exact lit_eq (by simp [Ideal.ofBits, Ideal.ieee, -EReal.coe_mul, -EReal.coe_neg]; norm_num)

/-- A finite sum of reals, as extended reals. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- An extended real between two reals is a real. -/
theorem coe_toReal_of_mem {t : EReal} {a b : ℝ} (h1 : (a : EReal) ≤ t) (h2 : t ≤ (b : EReal)) :
    t = ((t.toReal : ℝ) : EReal) :=
  (EReal.coe_toReal (fun h => by rw [h] at h2; exact absurd h2 (by simp))
    (fun h => by rw [h] at h1; exact absurd h1 (by simp))).symm

/-- The phase of a pre-activation: its hyperbolic tangent times the f32 word of pi. -/
def phaseR (t : EReal) : ℝ := (Ideal.tanh t).toReal * lit 0x40490FDB#32

theorem tanh_toReal (t : EReal) : Ideal.tanh t = (((Ideal.tanh t).toReal : ℝ) : EReal) := by
  induction t with
  | bot => rw [show Ideal.tanh ⊥ = ((-1 : ℝ) : EReal) by rw [EReal.coe_neg, EReal.coe_one]; rfl, EReal.toReal_coe]
  | top => rw [show Ideal.tanh ⊤ = ((1 : ℝ) : EReal) by rw [EReal.coe_one]; rfl, EReal.toReal_coe]
  | coe r => rw [Ideal.tanh_coe, EReal.toReal_coe]

theorem tanh_abs_le (t : EReal) : |(Ideal.tanh t).toReal| ≤ 1 := by
  induction t with
  | bot => rw [show Ideal.tanh ⊥ = ((-1 : ℝ) : EReal) by rw [EReal.coe_neg, EReal.coe_one]; rfl, EReal.toReal_coe]; simp
  | top => rw [show Ideal.tanh ⊤ = ((1 : ℝ) : EReal) by rw [EReal.coe_one]; rfl, EReal.toReal_coe]; simp
  | coe r =>
    rw [Ideal.tanh_coe, EReal.toReal_coe, abs_le]
    exact ⟨(Real.neg_one_lt_tanh r).le, (Real.tanh_lt_one r).le⟩

/-- The hyperbolic tangent times the word of pi is the phase. -/
theorem tanh_mul_pi (t : EReal) : Ideal.tanh t * ((lit 0x40490FDB#32 : ℝ) : EReal) = ((phaseR t : ℝ) : EReal) := by
  rw [phaseR, EReal.coe_mul, ← tanh_toReal]

/-- A phase lies within half a turn of zero. -/
theorem abs_phaseR_le (t : EReal) : |phaseR t| ≤ lit 0x40490FDB#32 := by
  have hp : (0 : ℝ) ≤ lit 0x40490FDB#32 := by rw [lit_pi]; norm_num
  rw [phaseR, abs_mul, abs_of_nonneg hp]
  exact mul_le_of_le_one_left hp (tanh_abs_le t)

/-- The logistic function's value as a real number. -/
def sigR (t : EReal) : ℝ := (Ideal.logistic t).toReal

theorem logistic_eq (t : EReal) : Ideal.logistic t = ((sigR t : ℝ) : EReal) := by
  unfold sigR
  induction t with
  | bot => rw [Ideal.logistic_bot, EReal.toReal_zero, EReal.coe_zero]
  | top => rw [Ideal.logistic_top, EReal.toReal_one, EReal.coe_one]
  | coe r => rw [Ideal.logistic_coe, EReal.toReal_coe]

theorem sigR_nonneg (t : EReal) : 0 ≤ sigR t := by
  unfold sigR
  induction t with
  | bot => rw [Ideal.logistic_bot, EReal.toReal_zero]
  | top => rw [Ideal.logistic_top, EReal.toReal_one]; exact zero_le_one
  | coe r =>
    rw [Ideal.logistic_coe, EReal.toReal_coe]
    have := Real.exp_pos (-r)
    positivity

/-- A quotient of reals with a divisor that is not zero. -/
theorem div_real {a b : ℝ} (h : b ≠ 0) : Ideal.div (a : EReal) (b : EReal) = ((a / b : ℝ) : EReal) := by
  rw [Ideal.div_coe h, ← EReal.coe_mul, mul_one_div]

/-- The logistic function, written as one over one plus an exponential. -/
theorem one_div_one_add_exp_neg (t : EReal) :
    Ideal.div 1 (1 + Ideal.exp (-t)) = ((sigR t : ℝ) : EReal) := logistic_eq t

end Cert.Phasor
-- ==== Proof.Trig.lean ====
/- The cosine and sine polynomials on reals, the reduction of an angle by whole turns, and the window of five offsets. -/
module

public import proofs.«01_k».proof.Proof.Lit

@[expose] public section

noncomputable section

namespace Cert.Phasor

open Idealize.ShloMosaic
open scoped BigOperators

/-- The angle `t` less the whole turns nearest to it. -/
def turnR (t : ℝ) : ℝ := t - Ideal.roundHalfEven (t / lit 0x40C90FDB#32) * lit 0x40C90FDB#32

/-- The cosine's polynomial. -/
def cosR (r : ℝ) : ℝ :=
  lit 0x3F800000#32 + lit 0xBEFFFFFD#32 * (r * r) + lit 0x3D2AAA84#32 * (r * r * (r * r)) +
    lit 0xBAB6084B#32 * (r * r * (r * r) * (r * r)) + lit 0x37CFD082#32 * (r * r * (r * r) * (r * r) * (r * r)) +
    lit 0xB491903A#32 * (r * r * (r * r) * (r * r) * (r * r) * (r * r)) +
    lit 0x30EEB721#32 * (r * r * (r * r) * (r * r) * (r * r) * (r * r) * (r * r))

/-- The sine's polynomial. -/
def sinR (r : ℝ) : ℝ :=
  lit 0x3F7FFFFF#32 * r + lit 0xBE2AAA93#32 * (r * r * r) + lit 0x3C0886AD#32 * (r * r * (r * r) * r) +
    lit 0xB94FD5EE#32 * (r * r * (r * r) * (r * r) * r) + lit 0x36360D79#32 * (r * r * (r * r) * (r * r) * (r * r) * r) +
    lit 0xB2B34B08#32 * (r * r * (r * r) * (r * r) * (r * r) * (r * r) * r)

theorem lit_two_pi_pos : 0 < lit 0x40C90FDB#32 := by rw [lit_two_pi]; norm_num

/-- The integer nearest to a number of size at most a half, ties to even, is zero. -/
theorem roundHalfEven_eq_zero {x : ℝ} (h : |x| ≤ 1 / 2) : Ideal.roundHalfEven x = 0 := by
  rw [abs_le] at h
  unfold Ideal.roundHalfEven
  by_cases hx : 0 ≤ x
  · have hf : ⌊x⌋ = 0 := by rw [Int.floor_eq_iff]; constructor <;> push_cast <;> linarith
    simp only [hf]
    push_cast
    split_ifs <;> first | rfl | (exfalso; linarith) | simp_all
  · have hf : ⌊x⌋ = -1 := by rw [Int.floor_eq_iff]; constructor <;> push_cast <;> linarith
    simp only [hf]
    push_cast
    split_ifs <;> first | rfl | (exfalso; linarith) | simp_all

/-- Reducing a phase leaves it as it is. -/
theorem turnR_phaseR (t : EReal) : turnR (phaseR t) = phaseR t := by
  have hp := lit_two_pi_pos
  have h : |phaseR t / lit 0x40C90FDB#32| ≤ 1 / 2 := by
    rw [abs_div, abs_of_pos hp, div_le_iff₀ hp]
    refine (abs_phaseR_le t).trans (le_of_eq ?_)
    rw [lit_pi, lit_two_pi]; norm_num
  unfold turnR
  rw [roundHalfEven_eq_zero h]
  ring

/-- The reduction, as the reference divides. -/
theorem turn_div (t : ℝ) :
    (t : EReal) - Ideal.liftRound Ideal.roundHalfEven (Ideal.div (t : EReal) ((lit 0x40C90FDB#32 : ℝ) : EReal)) *
      ((lit 0x40C90FDB#32 : ℝ) : EReal) = ((turnR t : ℝ) : EReal) := by
  rw [div_real lit_two_pi_pos.ne', Ideal.liftRound_coe, ← EReal.coe_mul, ← EReal.coe_sub]
  rfl

/-- The reduction, as the kernel multiplies by the reciprocal. -/
theorem turn_mul (t : ℝ) :
    (t : EReal) - Ideal.liftRound Ideal.roundHalfEven ((t : EReal) * ((2097152 / 13176795 : ℝ) : EReal)) *
      ((lit 0x40C90FDB#32 : ℝ) : EReal) = ((turnR t : ℝ) : EReal) := by
  rw [← turn_div, div_real lit_two_pi_pos.ne', ← EReal.coe_mul,
    show t * (2097152 / 13176795) = t / lit 0x40C90FDB#32 by rw [lit_two_pi]; ring]

/-- A head's answer: the weighted sum over the five offsets over the sum of the weights, for any numbers whose angle sums have the
cosines `c1`, `c2` and the sines `± s1`, `± s2`, is the answer at offset zero times a gain. -/
theorem window_head (X Y c1 c2 s1 s2 w1 w2 q ε : ℝ) :
    (0 + w2 * ((c2 * X + -s2 * Y) / q) + w1 * ((c1 * X + -s1 * Y) / q) + 1 * ((1 * X + 0 * Y) / q) +
        w1 * ((c1 * X + s1 * Y) / q) + w2 * ((c2 * X + s2 * Y) / q)) /
      (0 + w2 + w1 + 1 + w1 + w2 + ε) =
    (1 + 2 * c1 * w1 + 2 * c2 * w2) / (1 + 2 * w1 + 2 * w2 + ε) * X / q := by
  rw [show 0 + w2 + w1 + 1 + w1 + w2 + ε = 1 + 2 * w1 + 2 * w2 + ε by ring]
  ring

/-- The sum over a head's phases at an offset of cosine `c` and sine `s`. -/
theorem window_sum {n : ℕ} (pc ps cz sz Mc Ms : Fin n → ℝ) (c s : ℝ) :
    (∑ p, (pc p * (cz p * c - sz p * s) - ps p * (sz p * c + cz p * s)) * Mc p) +
      (∑ p, (ps p * (cz p * c - sz p * s) + pc p * (sz p * c + cz p * s)) * Ms p) =
    c * (∑ p, (Mc p * (pc p * cz p - ps p * sz p) + Ms p * (ps p * cz p + pc p * sz p))) +
      s * (∑ p, (Mc p * (-(pc p * sz p) - ps p * cz p) + Ms p * (pc p * cz p - ps p * sz p))) := by
  rw [Finset.mul_sum, Finset.mul_sum, ← Finset.sum_add_distrib, ← Finset.sum_add_distrib]
  exact Finset.sum_congr rfl fun p _ => by ring

/-- The width of the window: twice the logistic plus a tenth. -/
def widR (t : EReal) : ℝ := sigR t * lit 0x40000000#32 + lit 0x3DCCCCCD#32

/-- What the weights' exponents are divided by. -/
def varR (t : EReal) : ℝ := widR t * widR t + lit 0x358637BD#32

theorem varR_pos (t : EReal) : 0 < varR t := by
  have : 0 < lit 0x358637BD#32 := by rw [lit_eps]; norm_num
  unfold varR
  nlinarith [mul_self_nonneg (widR t)]

/-- The weight of the offsets at distance one, and that at distance two. -/
def w1R (t : EReal) : ℝ := Real.exp (-(1 / 2) / varR t)
def w2R (t : EReal) : ℝ := Real.exp (-2 / varR t)

/-- The weight at distance two is the fourth power of that at distance one. -/
theorem w2R_eq (t : EReal) : w1R t * w1R t * (w1R t * w1R t) = w2R t := by
  unfold w1R w2R
  rw [← Real.exp_add, ← Real.exp_add]
  congr 1; ring

theorem w1R_pos (t : EReal) : 0 < w1R t := Real.exp_pos _
theorem w2R_pos (t : EReal) : 0 < w2R t := Real.exp_pos _

/-- The sum of the five weights and the guard. -/
def totR (t : EReal) : ℝ := 1 + 2 * w1R t + 2 * w2R t + lit 0x358637BD#32

theorem totR_pos (t : EReal) : 0 < totR t := by
  have : 0 < lit 0x358637BD#32 := by rw [lit_eps]; norm_num
  have h1 := w1R_pos t
  have h2 := w2R_pos t
  unfold totR
  linarith

/-- A head's gain, without the factors of the heads' mean and of the phases' number. -/
def gainR (t : EReal) : ℝ :=
  (1 + 2 * lit 0x3F7EB898#32 * w1R t + 2 * lit 0x3F7AE5A5#32 * w2R t) / totR t

end Cert.Phasor

end
-- ==== Proof.Spec.lean ====
/- What kernel and reference compute, stage by stage, over functions of indices. -/
module

public import proofs.«01_k».proof.Proof.Trig

@[expose] public section

noncomputable section

namespace Cert.Phasor

open Idealize.ShloMosaic
open scoped BigOperators

/-- A row times a matrix's transpose, plus a bias. -/
def lin {n m : ℕ} (v : Fin n → EReal) (w : Fin m → Fin n → EReal) (b : Fin m → EReal) (j : Fin m) : EReal :=
  (∑ k, v k * w j k) + b j

/-- The exact gelu. -/
def gelu (t : EReal) : EReal :=
  ((lit 0x3F000000#32 : ℝ) : EReal) * t * (1 + Ideal.erf (t * ((lit 0x3F3504F3#32 : ℝ) : EReal)))

/-- The twenty-six arrays, as functions of indices. -/
structure Args where
  x : Fin 2 → Fin 2048 → Fin 256 → EReal
  pp : Fin 2048 → Fin 32 → EReal
  wc : Fin 256 → Fin 256 → EReal
  bc : Fin 256 → EReal
  hw1 : Fin 4 → Fin 128 → Fin 288 → EReal
  hb1 : Fin 4 → Fin 128 → EReal
  hw2 : Fin 4 → Fin 33 → Fin 128 → EReal
  hb2 : Fin 4 → Fin 33 → EReal
  wk : Fin 32 → Fin 256 → EReal
  bk : Fin 32 → EReal
  wv : Fin 256 → Fin 256 → EReal
  bv : Fin 256 → EReal
  wx : Fin 256 → Fin 256 → EReal
  bx : Fin 256 → EReal
  kw1 : Fin 256 → Fin 512 → EReal
  kb1 : Fin 256 → EReal
  kw2 : Fin 32 → Fin 256 → EReal
  kb2 : Fin 32 → EReal
  gw1 : Fin 128 → Fin 256 → EReal
  gb1 : Fin 128 → EReal
  gw2 : Fin 128 → EReal
  gb2 : EReal
  lg : Fin 256 → EReal
  lb : Fin 256 → EReal
  wo : Fin 256 → Fin 256 → EReal
  bo : Fin 256 → EReal

variable (A : Args)

/-- The content row. -/
def contentE (b : Fin 2) (l : Fin 2048) (d : Fin 256) : EReal := lin (A.x b l) A.wc A.bc d

/-- The value row. -/
def valE (b : Fin 2) (l : Fin 2048) (d : Fin 256) : EReal := lin (A.x b l) A.wv A.bv d

/-- What the precondition gives: phases, contents and values are real. -/
structure Good : Prop where
  pp : ∀ l p, A.pp l p = (((A.pp l p).toReal : ℝ) : EReal)
  content : ∀ b l d, contentE A b l d = (((contentE A b l d).toReal : ℝ) : EReal)
  val : ∀ b l d, valE A b l d = (((valE A b l d).toReal : ℝ) : EReal)

/-- The content, as a real. -/
def contentR (b : Fin 2) (l : Fin 2048) (d : Fin 256) : ℝ := (contentE A b l d).toReal

/-- The position's phase, reduced. -/
def posT (l : Fin 2048) (p : Fin 32) : ℝ := turnR (A.pp l p).toReal

/-- The heads' input: the row, then the phases. -/
def feat (b : Fin 2) (l : Fin 2048) (f : Fin 288) : EReal :=
  if h : f.val < 256 then A.x b l ⟨f.val, h⟩ else A.pp l ⟨f.val - 256, by omega⟩

/-- A head's hidden layer. -/
def hid (b : Fin 2) (l : Fin 2048) (h : Fin 4) (g : Fin 128) : EReal :=
  gelu (lin (feat A b l) (A.hw1 h) (A.hb1 h) g)

/-- A head's offsets, the last being the width's pre-activation. -/
def off (b : Fin 2) (l : Fin 2048) (h : Fin 4) (p : Fin 33) : EReal :=
  lin (hid A b l h) (A.hw2 h) (A.hb2 h) p

/-- A head's phase. -/
def center (b : Fin 2) (l : Fin 2048) (h : Fin 4) (p : Fin 32) : ℝ := phaseR (off A b l h ⟨p.val, by omega⟩)

/-- The width's pre-activation. -/
def wpre (b : Fin 2) (l : Fin 2048) (h : Fin 4) : EReal := off A b l h ⟨32, by omega⟩

/-- The sum over positions up to and including `l`. -/
def upto (l : Fin 2048) (f : Fin 2048 → ℝ) : ℝ := ∑ j : Fin 2048, if j ≤ l then f j else 0

/-- The first memory. -/
def memC (b : Fin 2) (l : Fin 2048) (p : Fin 32) (d : Fin 256) : ℝ :=
  upto l fun j => cosR (posT A j p) * contentR A b j d
def memS (b : Fin 2) (l : Fin 2048) (p : Fin 32) (d : Fin 256) : ℝ :=
  upto l fun j => sinR (posT A j p) * contentR A b j d

/-- A head's reading of the first memory at offset zero. -/
def headX (b : Fin 2) (l : Fin 2048) (h : Fin 4) (d : Fin 256) : ℝ :=
  ∑ p : Fin 32,
    (memC A b l p d * (cosR (posT A l p) * cosR (center A b l h p) - sinR (posT A l p) * sinR (center A b l h p)) +
      memS A b l p d * (sinR (posT A l p) * cosR (center A b l h p) + cosR (posT A l p) * sinR (center A b l h p)))

/-- The heads' mean. -/
def multiR (b : Fin 2) (l : Fin 2048) (d : Fin 256) : ℝ :=
  (∑ h : Fin 4, gainR (wpre A b l h) * headX A b l h d / lit 0x40B504F3#32) / 4

/-- The key's phase. -/
def keyR (b : Fin 2) (l : Fin 2048) (p : Fin 32) : ℝ := phaseR (lin (A.x b l) A.wk A.bk p)

/-- The gate's hidden layer and the gate. -/
def ghid (b : Fin 2) (l : Fin 2048) (g : Fin 128) : EReal := gelu (lin (A.x b l) A.gw1 A.gb1 g)
def gateR (b : Fin 2) (l : Fin 2048) : ℝ := sigR ((∑ g, ghid A b l g * A.gw2 g) + A.gb2)

/-- The context row and its sum over the positions up to `l`. -/
def ctxE (b : Fin 2) (l : Fin 2048) (d : Fin 256) : EReal := lin (A.x b l) A.wx A.bx d
def ctxCum (b : Fin 2) (l : Fin 2048) (d : Fin 256) : EReal :=
  ∑ j : Fin 2048, if j ≤ l then ctxE A b j d else 0
/-- The mean of the contexts up to `l`. -/
def ctxAvg (b : Fin 2) (l : Fin 2048) (d : Fin 256) : EReal :=
  ctxCum A b l d * ((1 / ((l.val : ℝ) + 1) : ℝ) : EReal)

/-- The storage layers' input: the row, then the mean context. -/
def stin (b : Fin 2) (l : Fin 2048) (f : Fin 512) : EReal :=
  if h : f.val < 256 then A.x b l ⟨f.val, h⟩ else ctxAvg A b l ⟨f.val - 256, by omega⟩

/-- The storage phase. -/
def sphid (b : Fin 2) (l : Fin 2048) (g : Fin 256) : EReal := gelu (lin (stin A b l) A.kw1 A.kb1 g)
def spR (b : Fin 2) (l : Fin 2048) (p : Fin 32) : ℝ := phaseR (lin (sphid A b l) A.kw2 A.kb2 p)

/-- The gated value. -/
def gvR (b : Fin 2) (l : Fin 2048) (d : Fin 256) : ℝ := (valE A b l d).toReal * gateR A b l

/-- The second memory, and the gates' sum. -/
def kvC (b : Fin 2) (l : Fin 2048) (p : Fin 32) (d : Fin 256) : ℝ :=
  upto l fun j => cosR (spR A b j p) * gvR A b j d
def kvS (b : Fin 2) (l : Fin 2048) (p : Fin 32) (d : Fin 256) : ℝ :=
  upto l fun j => sinR (spR A b j p) * gvR A b j d
def gateCum (b : Fin 2) (l : Fin 2048) : ℝ := upto l fun j => gateR A b j

/-- The reading of the second memory. -/
def kvR (b : Fin 2) (l : Fin 2048) (d : Fin 256) : ℝ :=
  ((∑ p : Fin 32, kvC A b l p d * cosR (keyR A b l p)) + ∑ p : Fin 32, kvS A b l p d * sinR (keyR A b l p)) /
    (Real.sqrt (max (gateCum A b l) 1) * lit 0x40B504F3#32)

/-- The two readings together, their mean and variance over the row. -/
def combR (b : Fin 2) (l : Fin 2048) (d : Fin 256) : ℝ := multiR A b l d + kvR A b l d
def meanR (b : Fin 2) (l : Fin 2048) : ℝ := (∑ d, combR A b l d) / 256
def vrncR (b : Fin 2) (l : Fin 2048) : ℝ :=
  (∑ d, (combR A b l d - meanR A b l) * (combR A b l d - meanR A b l)) / 256

/-- The normalized row. -/
def nrmR (b : Fin 2) (l : Fin 2048) (d : Fin 256) : ℝ :=
  (combR A b l d - meanR A b l) / Real.sqrt (vrncR A b l + lit 0x3727C5AC#32)
def lnE (b : Fin 2) (l : Fin 2048) (d : Fin 256) : EReal := ((nrmR A b l d : ℝ) : EReal) * A.lg d + A.lb d

/-- The result. -/
def outE (b : Fin 2) (l : Fin 2048) (d : Fin 256) : EReal :=
  A.x b l d + (∑ k, lnE A b l k * A.wo d k) + A.bo d

end Cert.Phasor

end
-- ==== Proof.PayA.lean ====
/- The kernel's payloads read at an index: the position's trigonometry, the projections, the heads. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.Phasor

open Idealize.ShloMosaic Cert.KernelIdeal Cert.KernelIdeal.Gen
open scoped BigOperators

theorem pay9_at (v : FVec Ideal S512x32 .f32) (i : Fin 512) (p : Fin 32) {a : ℝ} (h : v (ix2 i p) = (a : EReal)) :
    k0_pay9 (F := Ideal) v (ix2 i p) = ((turnR a : ℝ) : EReal) := by
  pointwise [k0_pay9, k0_pay8]
  rw [h, IdealRules.named_const.ideal_named_scalar _ _ _ _ rfl, ofBits_lit _ (by decide)]
  exact turn_mul a

theorem pay11_at (v : FVec Ideal S512x32 .f32) (i : Fin 512) (p : Fin 32) {a : ℝ} (h : v (ix2 i p) = (a : EReal)) :
    k0_pay11 (F := Ideal) v (ix2 i p) = ((sinR (turnR a) : ℝ) : EReal) := by
  pointwise [k0_pay11, k0_pay10]
  rw [pay9_at v i p h]
  simp (disch := decide) only [ofBits_lit, ← EReal.coe_mul, ← EReal.coe_add]
  congr 1; unfold sinR; ring

theorem pay13_at (v : FVec Ideal S512x32 .f32) (i : Fin 512) (p : Fin 32) {a : ℝ} (h : v (ix2 i p) = (a : EReal)) :
    k0_pay13 (F := Ideal) (k0_pay10 v) (k0_pay12 v) (Scalar.ofBits .f32 0x37CFD082#32) (ix2 i p) =
      ((cosR (turnR a) : ℝ) : EReal) := by
  pointwise [k0_pay13, k0_pay12, k0_pay10]
  rw [pay9_at v i p h]
  simp (disch := decide) only [ofBits_lit, ← EReal.coe_mul, ← EReal.coe_add, ← EReal.coe_one, ← lit_one]
  congr 1; unfold cosR; ring

/-- The position's cosines above its sines, transposed. -/
theorem pay14_at (v : FVec Ideal S512x32 .f32) (j : Fin 512) (k : Fin 64) {a : Fin 32 → ℝ}
    (h : ∀ p, v (ix2 j p) = ((a p : ℝ) : EReal)) :
    k0_pay14 (F := Ideal) (k0_pay10 v) (k0_pay11 v) (k0_pay12 v) (Scalar.ofBits .f32 0x37CFD082#32) (ix2 k j) =
      (((if hk : k.val < 32 then cosR (turnR (a ⟨k.val, hk⟩)) else sinR (turnR (a ⟨k.val - 32, by omega⟩))) : ℝ) : EReal) := by
  pointwise [k0_pay14]
  split
  · exact pay13_at v j _ (h _)
  · exact pay11_at v j _ (h _)

theorem pay15_at (x : FVec Ideal S512x256 .f32) (w : FVec Ideal S256x256 .f32) (b : FVec Ideal S1x256 .f32) (i : Fin 512) (d : Fin 256) :
    k0_pay15 (F := Ideal) x w b (ix2 i d) = lin (fun k => x (ix2 i k)) (fun m k => w (ix2 m k)) (fun m => b (ix2 0 m)) d := by
  pointwise [k0_pay15, lin]

theorem pay41_at (x : FVec Ideal S512x256 .f32) (w : FVec Ideal S256x256 .f32) (b : FVec Ideal S1x256 .f32) (i : Fin 512) (d : Fin 256) :
    k0_pay41 (F := Ideal) x w b (ix2 i d) = lin (fun k => x (ix2 i k)) (fun m k => w (ix2 m k)) (fun m => b (ix2 0 m)) d := by
  pointwise [k0_pay41, lin]

theorem pay42_at (x : FVec Ideal S512x256 .f32) (w : FVec Ideal S128x256 .f32) (b : FVec Ideal S1x128 .f32) (i : Fin 512) (g : Fin 128) :
    k0_pay42 (F := Ideal) x w b (ix2 i g) = lin (fun k => x (ix2 i k)) (fun m k => w (ix2 m k)) (fun m => b (ix2 0 m)) g := by
  pointwise [k0_pay42, lin]

theorem pay43_at (t : FVec Ideal S512x128 .f32) (w : FVec Ideal S1x128 .f32) (b : FVec Ideal S1x1 .f32) (i : Fin 512) :
    k0_pay43 (F := Ideal) t (Scalar.ofBits .f32 0x3F000000#32) w b (ix2 i 0) =
      ((sigR ((∑ g, gelu (t (ix2 i g)) * w (ix2 0 g)) + b (ix2 0 0)) : ℝ) : EReal) := by
  rw [← logistic_eq]
  pointwise [k0_pay43, gelu]
  simp (disch := decide) only [ofBits_lit, lit_one, EReal.coe_one]
  rfl

theorem pay40_at (x : FVec Ideal S512x256 .f32) (w : FVec Ideal S32x256 .f32) (b : FVec Ideal S1x32 .f32) (i : Fin 512) (p : Fin 32) :
    k0_pay40 (F := Ideal) x w b (ix2 i p) =
      ((phaseR (lin (fun k => x (ix2 i k)) (fun m k => w (ix2 m k)) (fun m => b (ix2 0 m)) p) : ℝ) : EReal) := by
  rw [← tanh_mul_pi]
  pointwise [k0_pay40, lin]
  rw [ofBits_lit _ (by decide)]

/-- The heads' input. -/
theorem pay16_at (x : FVec Ideal S512x256 .f32) (v : FVec Ideal S512x32 .f32) (i : Fin 512) (f : Fin 288) :
    k0_pay16 (F := Ideal) x v (ix2 i f) =
      if h : f.val < 256 then x (ix2 i ⟨f.val, h⟩) else v (ix2 i ⟨f.val - 256, by omega⟩) := by
  pointwise [k0_pay16]

/-- A head's hidden layer over the features. -/
def hidB (f : FVec Ideal S512x288 .f32) (w : FVec Ideal S1x128x288 .f32) (b : FVec Ideal S1x128 .f32) (i : Fin 512) (g : Fin 128) : EReal :=
  gelu (lin (fun k => f (ix2 i k)) (fun m k => w (ix3 0 m k)) (fun m => b (ix2 0 m)) g)

theorem pay17_at (x : FVec Ideal S512x256 .f32) (v : FVec Ideal S512x32 .f32) (w : FVec Ideal S1x128x288 .f32) (b : FVec Ideal S1x128 .f32) (i : Fin 512) (g : Fin 128) :
    k0_pay17 (F := Ideal) x v w b (ix2 i g) = hidB (k0_pay16 x v) w b i g := by
  pointwise [k0_pay17, lin, gelu, hidB]
  simp (disch := decide) only [ofBits_lit, lit_one, EReal.coe_one]
  rfl

theorem pay21_at (f : FVec Ideal S512x288 .f32) (w : FVec Ideal S1x128x288 .f32) (b : FVec Ideal S1x128 .f32) (i : Fin 512) (g : Fin 128) :
    k0_pay21 (F := Ideal) f w b (ix2 i g) = hidB f w b i g := by
  pointwise [k0_pay21, lin, gelu, hidB]
  simp (disch := decide) only [ofBits_lit, lit_one, EReal.coe_one]
  rfl

theorem pay24_at (f : FVec Ideal S512x288 .f32) (w : FVec Ideal S1x128x288 .f32) (b : FVec Ideal S1x128 .f32) (i : Fin 512) (g : Fin 128) :
    k0_pay24 (F := Ideal) f w b (ix2 i g) = hidB f w b i g := by
  pointwise [k0_pay24, lin, gelu, hidB]
  simp (disch := decide) only [ofBits_lit, lit_one, EReal.coe_one]
  rfl

theorem pay27_at (f : FVec Ideal S512x288 .f32) (w : FVec Ideal S1x128x288 .f32) (b : FVec Ideal S1x128 .f32) (i : Fin 512) (g : Fin 128) :
    k0_pay27 (F := Ideal) f w b (ix2 i g) = hidB f w b i g := by
  pointwise [k0_pay27, lin, gelu, hidB]
  simp (disch := decide) only [ofBits_lit, lit_one, EReal.coe_one]
  rfl

theorem pay19_at (t : FVec Ideal S512x128 .f32) (w : FVec Ideal S1x32x128 .f32) (b : FVec Ideal S1x32 .f32) (i : Fin 512) (p : Fin 32) :
    k0_pay19 (F := Ideal) t (k0_pay18 w) b (ix2 i p) = (∑ k, t (ix2 i k) * w (ix3 0 p k)) + b (ix2 0 p) := by
  pointwise [k0_pay19, k0_pay18]

theorem pay22_at (f : FVec Ideal S512x288 .f32) (w : FVec Ideal S1x128x288 .f32) (b : FVec Ideal S1x128 .f32) (w2 : FVec Ideal S1x32x128 .f32)
    (b2 : FVec Ideal S1x32 .f32) (i : Fin 512) (p : Fin 32) :
    k0_pay22 (F := Ideal) f w b w2 b2 (ix2 i p) = (∑ k, hidB f w b i k * w2 (ix3 0 p k)) + b2 (ix2 0 p) := by
  pointwise [k0_pay22]
  simp only [pay21_at]

theorem pay25_at (f : FVec Ideal S512x288 .f32) (w : FVec Ideal S1x128x288 .f32) (b : FVec Ideal S1x128 .f32) (w2 : FVec Ideal S1x32x128 .f32)
    (b2 : FVec Ideal S1x32 .f32) (i : Fin 512) (p : Fin 32) :
    k0_pay25 (F := Ideal) f w b w2 b2 (ix2 i p) = (∑ k, hidB f w b i k * w2 (ix3 0 p k)) + b2 (ix2 0 p) := by
  pointwise [k0_pay25]
  simp only [pay24_at]

theorem pay20_at (t : FVec Ideal S512x128 .f32) (w : FVec Ideal S1x1x128 .f32) (b : EReal) (i : Fin 512) :
    k0_pay20 (F := Ideal) t w b (ix2 i 0) = (∑ k, t (ix2 i k) * w (ix3 0 0 k)) + b := by
  pointwise [k0_pay20]

theorem pay23_at (t : FVec Ideal S512x128 .f32) (w : FVec Ideal S1x1x128 .f32) (b : EReal) (i : Fin 512) :
    k0_pay23 (F := Ideal) t w b (ix2 i 0) = (∑ k, t (ix2 i k) * w (ix3 0 0 k)) + b := by
  pointwise [k0_pay23]

/-- The four heads' phases, side by side. -/
theorem pay28_at (f : FVec Ideal S512x288 .f32) (o1 o2 o3 : FVec Ideal S512x32 .f32) (w1 : FVec Ideal S1x128x288 .f32) (b1 : FVec Ideal S1x128 .f32)
    (w2 : FVec Ideal S1x32x128 .f32) (b2 : FVec Ideal S1x32 .f32) (i : Fin 512) (o : Fin 4 → Fin 32 → EReal)
    (h1 : ∀ p, o1 (ix2 i p) = o 0 p) (h2 : ∀ p, o2 (ix2 i p) = o 1 p) (h3 : ∀ p, o3 (ix2 i p) = o 2 p)
    (h4 : ∀ p, (∑ k, hidB f w1 b1 i k * w2 (ix3 0 p k)) + b2 (ix2 0 p) = o 3 p) (h : Fin 4) (p : Fin 32) (q : Fin 128)
    (hq : q.val = 32 * h.val + p.val) :
    k0_pay28 (F := Ideal) f o1 o2 o3 w1 b1 w2 b2 (ix2 i q) = ((phaseR (o h p) : ℝ) : EReal) := by
  rw [← tanh_mul_pi]
  pointwise [k0_pay28]
  rw [ofBits_lit _ (by decide)]
  simp only [h1, h2, h3, pay27_at, h4]
  have hp := p.isLt
  obtain ⟨q, hq'⟩ := q
  simp only at hq
  subst hq
  fin_cases h <;> simp only [] <;> congr 2 <;> split_ifs <;> first | omega | (congr 1; apply Fin.ext; simp; try omega)

/-- The four heads' widths. -/
theorem pay29_at (f : FVec Ideal S512x288 .f32) (o1 o2 o3 : FVec Ideal S512x1 .f32) (b3 : EReal) (w1 : FVec Ideal S1x128x288 .f32)
    (b1 : FVec Ideal S1x128 .f32) (w2 : FVec Ideal S1x1x128 .f32) (b2 : EReal) (i : Fin 512) (o : Fin 4 → EReal)
    (h1 : o1 (ix2 i 0) = o 0) (h2 : o2 (ix2 i 0) = o 1) (h3 : o3 (ix2 i 0) + b3 = o 2)
    (h4 : (∑ k, hidB f w1 b1 i k * w2 (ix3 0 0 k)) + b2 = o 3) (h : Fin 4) :
    k0_pay29 (F := Ideal) f o1 o2 o3 b3 w1 b1 w2 b2 (ix2 i h) = ((sigR (o h) : ℝ) : EReal) := by
  rw [← logistic_eq]
  pointwise [k0_pay29]
  simp only [pay27_at, h4]
  fin_cases h
  · exact congrArg _ h1
  · exact congrArg _ h2
  · exact congrArg _ h3
  · rfl

theorem pay26_at (f : FVec Ideal S512x288 .f32) (w1 : FVec Ideal S1x128x288 .f32) (b1 : FVec Ideal S1x128 .f32)
    (w2 : FVec Ideal S1x1x128 .f32) (i : Fin 512) :
    k0_pay26 (F := Ideal) f w1 b1 w2 (ix2 i 0) = (∑ k, hidB f w1 b1 i k * w2 (ix3 0 0 k)) := by
  pointwise [k0_pay26]
  simp only [pay24_at]

/-- A head's gain, with the factors of the heads' mean and of the phases' number. -/
theorem pay30_at (s : FVec Ideal S512x4 .f32) (i : Fin 512) (h : Fin 4) {t : EReal} (hs : s (ix2 i h) = ((sigR t : ℝ) : EReal)) :
    k0_pay30 (F := Ideal) s (Scalar.ofBits .f32 0x40000000#32) (ix2 i h) = ((524288 / 11863283 * gainR t : ℝ) : EReal) := by
  pointwise [k0_pay30]
  rw [hs, IdealRules.named_const.ideal_named_scalar _ _ _ _ rfl]
  simp (disch := decide) only [ofBits_lit, ← EReal.coe_mul, ← EReal.coe_add, ← EReal.coe_one]
  have hv : sigR t * lit 0x40000000#32 + lit 0x3DCCCCCD#32 = widR t := rfl
  rw [hv, show widR t * widR t + lit 0x358637BD#32 = varR t from rfl, div_real (varR_pos t).ne', ← EReal.coe_mul, Ideal.exp_coe]
  have he : Real.exp (lit 0xBF000000#32 * (1 / varR t)) = w1R t := by
    unfold w1R; rw [lit_neg_half]; congr 1; ring
  rw [he]
  simp only [← EReal.coe_mul, ← EReal.coe_add, w2R_eq]
  rw [show 1 + lit 0x40000000#32 * w1R t + lit 0x40000000#32 * w2R t + lit 0x358637BD#32 = totR t by rw [lit_two]; rfl,
    div_real (totR_pos t).ne', lit_two_cos1, lit_two_cos2]
  congr 1
  unfold gainR
  ring

end Cert.Phasor

end
-- ==== Proof.PayB.lean ====
/- The kernel's payloads read at an index: the masks, the memories, the gate, the normalization. -/
module

public import proofs.«01_k».proof.Proof.PayA
public import Idealize.ShloMosaic.Lib.WordCmp
public import Idealize.ShloMosaic.Lib.Pipeline.ValueKit.Acc

@[expose] public section

set_option maxRecDepth 16384

noncomputable section

namespace Cert.Phasor

open Idealize.ShloMosaic Cert.KernelIdeal Cert.KernelIdeal.Gen
open scoped BigOperators

/-- The triangle of ones. -/
theorem pay6_at (i j : Fin 512) :
    k0_pay6 (F := Ideal) (ix2 i j) = (((if j ≤ i then 1 else 0 : ℝ)) : EReal) := by
  pointwise [k0_pay6]
  rw [WordCmp.cmpi_sge_ofNat (by omega) (by omega)]
  by_cases h : j ≤ i
  · rw [decide_eq_true (by exact h), if_pos h]; simp [Scalar.select]
  · rw [decide_eq_false (by exact h), if_neg h]; simp [Scalar.select]

theorem word33 : ∀ (q : Fin 128) (p : Fin 32), (IntOp.cmpi CmpIPredicate.eq
        (Scalar.select
          (IntOp.andi
            (IntOp.xori
              (IntOp.cmpi CmpIPredicate.slt
                (IntOp.remsi ArithUnit.vector (BitVec.ofNat 32 q.val)
                  (Scalar.select (Scalar.cmpi CmpIPredicate.eq 32#32 0#32) 1#32 32#32))
                0#32)
              (Scalar.cmpi CmpIPredicate.slt (Scalar.select (Scalar.cmpi CmpIPredicate.eq 32#32 0#32) 1#32 32#32) 0#32))
            (IntOp.cmpi CmpIPredicate.ne
              (IntOp.remsi ArithUnit.vector (BitVec.ofNat 32 q.val)
                (Scalar.select (Scalar.cmpi CmpIPredicate.eq 32#32 0#32) 1#32 32#32))
              0#32))
          (IntOp.addi
            (IntOp.remsi ArithUnit.vector (BitVec.ofNat 32 q.val)
              (Scalar.select (Scalar.cmpi CmpIPredicate.eq 32#32 0#32) 1#32 32#32))
            (Scalar.select (Scalar.cmpi CmpIPredicate.eq 32#32 0#32) 1#32 32#32))
          (IntOp.remsi ArithUnit.vector (BitVec.ofNat 32 q.val)
            (Scalar.select (Scalar.cmpi CmpIPredicate.eq 32#32 0#32) 1#32 32#32)))
        (BitVec.ofNat 32 p.val)) = BitVec.ofBool (decide (q.val % 32 = p.val)) := by
  decide +kernel

/-- The matrix that adds up the heads: ones where the column is the phase of the row. -/
theorem pay33_at (q : Fin 128) (p : Fin 32) :
    k0_pay33 (F := Ideal) (ix2 q p) = (((if q.val % 32 = p.val then 1 else 0 : ℝ)) : EReal) := by
  pointwise [k0_pay33]
  rw [word33]
  by_cases h : q.val % 32 = p.val <;> simp [h, Scalar.select]

theorem word34 : ∀ (q : Fin 128) (x : Fin 4), (IntOp.cmpi CmpIPredicate.eq
          (Scalar.select
            (IntOp.andi
              (IntOp.cmpi CmpIPredicate.ne
                (IntOp.subi (BitVec.setWidth 32 (IntOp.cmpi CmpIPredicate.sgt (BitVec.ofNat 32 q.val) 0#32))
                  (BitVec.setWidth 32 (IntOp.cmpi CmpIPredicate.slt (BitVec.ofNat 32 q.val) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 q.val) 32#32) 0#32))
            (IntOp.subi (IntOp.divsi ArithUnit.vector (BitVec.ofNat 32 q.val) 32#32) 1#32)
            (IntOp.divsi ArithUnit.vector (BitVec.ofNat 32 q.val) 32#32))
          (BitVec.ofNat 32 x.val)) = BitVec.ofBool (decide (x.val = q.val / 32)) := by
  decide +kernel

/-- Each head's gain, repeated over its phases. -/
theorem pay34_at (g : FVec Ideal S512x4 .f32) (i : Fin 512) (q : Fin 128) :
    k0_pay34 (F := Ideal) g (iota .tc S4x128 32 [1] iota_S4x128_d1_w32) 32#32 k0_pay31 k0_pay32 (Scalar.cmpi .sgt 32#32 0#32) (ix2 i q) =
      g (ix2 i ⟨q.val / 32, by omega⟩) := by
  pointwise [k0_pay34, k0_pay31, k0_pay32]
  simp only [word34]
  rw [Finset.sum_eq_single ⟨q.val / 32, by omega⟩]
  · simp [Scalar.select]
  · intro b _ hb
    rw [decide_eq_false (fun h => hb (Fin.ext h))]
    simp [Scalar.select]
  · simp

theorem pay35_eq (z : FVec Ideal S512x128 .f32) (i : Fin 512) (q : Fin 128) : k0_pay35 (F := Ideal) z (ix2 i q) = z (ix2 i q) * z (ix2 i q) := by
  pointwise [k0_pay35]

/-- The sum over the columns of the same phase. -/
theorem sum_heads (f : Fin 128 → ℝ) (p : Fin 32) :
    (∑ q : Fin 128, f q * (if q.val % 32 = p.val then 1 else 0 : ℝ)) = ∑ h : Fin 4, f ⟨32 * h.val + p.val, by omega⟩ := by
  rw [← _root_.Fin.sum_mul_add_fin 4 32]
  refine Finset.sum_congr rfl fun h _ => ?_
  rw [Finset.sum_eq_single p]
  · have hp := p.isLt
    rw [if_pos (by simp only []; omega), mul_one]
    congr 1; apply Fin.ext; simp only []; omega
  · intro b _ hb
    have hp := p.isLt; have hb' := b.isLt
    rw [if_neg (fun h' => hb (Fin.ext (by simp at h'; omega))), mul_zero]
  · simp

/-- The reading vector: the heads' gains times the cosines and sines of the sum of the position's phase and the head's. -/
def qeffR (pc ps : Fin 32 → ℝ) (g : Fin 4 → ℝ) (z : Fin 4 → Fin 32 → ℝ) (k : Fin 64) : ℝ :=
  if hk : k.val < 32 then
    pc ⟨k.val, hk⟩ * (∑ h, g h * cosR (z h ⟨k.val, hk⟩)) - ps ⟨k.val, hk⟩ * (∑ h, g h * sinR (z h ⟨k.val, hk⟩))
  else ps ⟨k.val - 32, by omega⟩ * (∑ h, g h * cosR (z h ⟨k.val - 32, by omega⟩)) +
    pc ⟨k.val - 32, by omega⟩ * (∑ h, g h * sinR (z h ⟨k.val - 32, by omega⟩))

theorem pay37_at (s c : FVec Ideal S512x32 .f32) (zv gv : FVec Ideal S512x128 .f32) (i : Fin 512) (k : Fin 64)
    {pc ps : Fin 32 → ℝ} {g : Fin 4 → ℝ} {z : Fin 4 → Fin 32 → ℝ}
    (hs : ∀ p, s (ix2 i p) = ((ps p : ℝ) : EReal)) (hc : ∀ p, c (ix2 i p) = ((pc p : ℝ) : EReal))
    (hz : ∀ (h : Fin 4) (p : Fin 32) (q : Fin 128), q.val = 32 * h.val + p.val → zv (ix2 i q) = ((z h p : ℝ) : EReal))
    (hg : ∀ (h : Fin 4) (p : Fin 32) (q : Fin 128), q.val = 32 * h.val + p.val → gv (ix2 i q) = ((g h : ℝ) : EReal)) :
    k0_pay37 (F := Ideal) s c zv (k0_pay33) gv (k0_pay35 zv) (k0_pay36 zv) (ix2 i k) = ((qeffR pc ps g z k : ℝ) : EReal) := by
  have hz' : ∀ q : Fin 128, zv (ix2 i q) = ((z ⟨q.val / 32, by omega⟩ ⟨q.val % 32, by omega⟩ : ℝ) : EReal) := fun q =>
    hz _ _ q (by simp only []; omega)
  have hg' : ∀ q : Fin 128, gv (ix2 i q) = ((g ⟨q.val / 32, by omega⟩ : ℝ) : EReal) := fun q =>
    hg _ ⟨q.val % 32, by omega⟩ q (by simp only []; omega)
  pointwise [k0_pay37, k0_pay36, k0_pay35]
  simp (disch := decide) only [hs, hc, hz', hg', pay33_at, ofBits_lit, ← EReal.coe_mul, ← EReal.coe_add, ← EReal.coe_one, ← lit_one]
  have hcos : ∀ r : ℝ, ((((((lit 0x30EEB721#32 * (r * r) + lit 0xB491903A#32) * (r * r) + lit 0x37CFD082#32) * (r * r) +
      lit 0xBAB6084B#32) * (r * r) + lit 0x3D2AAA84#32) * (r * r) + lit 0xBEFFFFFD#32) * (r * r) + 1) = cosR r :=
    fun r => by unfold cosR; rw [lit_one]; ring
  have hsin : ∀ r : ℝ, ((((((lit 0xB2B34B08#32 * (r * r) + lit 0x36360D79#32) * (r * r) + lit 0xB94FD5EE#32) * (r * r) +
      lit 0x3C0886AD#32) * (r * r) + lit 0xBE2AAA93#32) * (r * r) + lit 0x3F7FFFFF#32) * r) = sinR r :=
    fun r => by unfold sinR; ring
  simp only [hcos, hsin, lit_one]
  have hsum : ∀ (w : ℝ → ℝ) (p : Fin 32) (n : ℕ), n = p.val →
      (∑ q : Fin 128, (((g ⟨q.val / 32, by omega⟩ * w (z ⟨q.val / 32, by omega⟩ ⟨q.val % 32, by omega⟩) *
        (if q.val % 32 = n then 1 else 0 : ℝ)) : ℝ) : EReal)) = ((∑ h, g h * w (z h p) : ℝ) : EReal) := by
    intro w p n hn
    subst hn
    rw [← coe_sum, sum_heads (fun q => g ⟨q.val / 32, by omega⟩ * w (z ⟨q.val / 32, by omega⟩ ⟨q.val % 32, by omega⟩))]
    congr 1
    refine Finset.sum_congr rfl fun h _ => ?_
    have hp := p.isLt
    have e1 : (⟨(32 * h.val + p.val) / 32, by omega⟩ : Fin 4) = h := Fin.ext (by simp only []; omega)
    have e2 : (⟨(32 * h.val + p.val) % 32, by omega⟩ : Fin 32) = p := Fin.ext (by simp only []; omega)
    simp only [e1, e2]
  unfold qeffR
  split
  · rw [hsum cosR ⟨k.val, ‹_›⟩ _ rfl, hsum sinR ⟨k.val, ‹_›⟩ _ rfl]
    simp only [← EReal.coe_mul, ← EReal.coe_sub]
  · rw [hsum cosR ⟨k.val - 32, by omega⟩ _ rfl, hsum sinR ⟨k.val - 32, by omega⟩ _ rfl]
    simp only [← EReal.coe_mul, ← EReal.coe_add]

/-- A row of the masked products plus the carried memory. -/
theorem pay38_at (tr : FVec Ideal S512x512 .f32) (K : FVec Ideal S64x512 .f32) (x : FVec Ideal S512x256 .f32) (q : FVec Ideal S512x64 .f32)
    (s1 : FVec Ideal S64x256 .f32) (i : Fin 512) (d : Fin 256) {Q : Fin 64 → ℝ} {KR : Fin 64 → Fin 512 → ℝ} {X : Fin 512 → ℝ} {S : Fin 64 → ℝ}
    (htr : ∀ j, tr (ix2 i j) = (((if j ≤ i then 1 else 0 : ℝ)) : EReal)) (hq : ∀ k, q (ix2 i k) = ((Q k : ℝ) : EReal))
    (hK : ∀ k j, K (ix2 k j) = ((KR k j : ℝ) : EReal)) (hx : ∀ j, x (ix2 j d) = ((X j : ℝ) : EReal))
    (hS : ∀ k, s1 (ix2 k d) = ((S k : ℝ) : EReal)) :
    k0_pay38 (F := Ideal) tr K x q (constant S512x512 .f32 0x00000000#32) s1 (ix2 i d) =
      ((∑ k, Q k * (S k + ∑ j, if j ≤ i then KR k j * X j else 0) : ℝ) : EReal) := by
  pointwise [k0_pay38]
  simp only [htr, hq, hK, hx, hS, ← EReal.coe_mul, ← EReal.coe_add, ← coe_sum]
  congr 1
  simp only [mul_add, Finset.sum_add_distrib, Finset.mul_sum, Finset.sum_mul]
  rw [Finset.sum_comm, add_comm]
  congr 1
  refine Finset.sum_congr rfl fun k _ => Finset.sum_congr rfl fun j _ => ?_
  split_ifs <;> ring

theorem pay39_at (K : FVec Ideal S64x512 .f32) (x : FVec Ideal S512x256 .f32) (s1 : FVec Ideal S64x256 .f32) (k : Fin 64) (d : Fin 256)
    {KR : Fin 512 → ℝ} {X : Fin 512 → ℝ} {S : ℝ}
    (hK : ∀ j, K (ix2 k j) = ((KR j : ℝ) : EReal)) (hx : ∀ j, x (ix2 j d) = ((X j : ℝ) : EReal))
    (hS : s1 (ix2 k d) = ((S : ℝ) : EReal)) :
    k0_pay39 (F := Ideal) K x s1 (ix2 k d) = ((S + ∑ j, KR j * X j : ℝ) : EReal) := by
  pointwise [k0_pay39]
  simp only [hK, hx, hS, ← EReal.coe_mul, ← EReal.coe_add, ← coe_sum]

/-- A row of the triangle times a column. -/
theorem tri_sum (i : Fin 512) (f : Fin 512 → EReal) :
    (∑ j, (((if j ≤ i then 1 else 0 : ℝ)) : EReal) * f j) = ∑ j, if j ≤ i then f j else 0 := by
  refine Finset.sum_congr rfl fun j _ => ?_
  split_ifs <;> simp

theorem pay44_at (x : FVec Ideal S512x256 .f32) (tr : FVec Ideal S512x512 .f32) (w : FVec Ideal S256x256 .f32) (b c : FVec Ideal S1x256 .f32)
    (i : Fin 512) (d : Fin 256) (htr : ∀ j, tr (ix2 i j) = (((if j ≤ i then 1 else 0 : ℝ)) : EReal)) :
    k0_pay44 (F := Ideal) x tr w b c (ix2 i d) =
      (∑ j, if j ≤ i then lin (fun k => x (ix2 j k)) (fun m k => w (ix2 m k)) (fun m => b (ix2 0 m)) d else 0) + c (ix2 0 d) := by
  rw [← tri_sum]
  pointwise [k0_pay44, lin]
  simp only [htr]

theorem pay45_at (n : Fin 4) (x : FVec Ideal S512x256 .f32) (tr : FVec Ideal S512x512 .f32) (w : FVec Ideal S256x256 .f32) (b c : FVec Ideal S1x256 .f32)
    (i : Fin 512) (d : Fin 256) :
    k0_pay45 (F := Ideal) (BitVec.ofNat 32 n.val) x tr w b c (ix2 i d) =
      k0_pay44 (F := Ideal) x tr w b c (ix2 i d) * ((1 / (((512 * n.val + i.val : ℕ) : ℝ) + 1) : ℝ) : EReal) := by
  pointwise [k0_pay45]
  have hw : IntOp.addi (BitVec.ofNat 32 i.val) (Scalar.addi (Scalar.muli (BitVec.ofNat 32 n.val) 512#32) 1#32) =
      BitVec.ofNat 32 (512 * n.val + i.val + 1) := by
    show BitVec.ofNat 32 i.val + (BitVec.ofNat 32 n.val * 512#32 + 1#32) = _
    apply BitVec.eq_of_toNat_eq
    simp only [BitVec.toNat_add, BitVec.toNat_mul, BitVec.toNat_ofNat]
    omega
  rw [hw]
  have hs : FloatOps.sitofp (F := Ideal) .f32 (BitVec.ofNat 32 (512 * n.val + i.val + 1)) =
      ((((512 * n.val + i.val : ℕ) : ℝ) + 1 : ℝ) : EReal) := by
    show (((BitVec.ofNat 32 (512 * n.val + i.val + 1)).toInt : ℝ) : EReal) = _
    rw [WordCmp.toInt_ofNat_of_lt (by omega)]
    push_cast
    rfl
  rw [hs, ← EReal.coe_one, div_real (by positivity)]

theorem pay47_at (x : FVec Ideal S512x256 .f32) (tr : FVec Ideal S512x512 .f32) (w : FVec Ideal S256x256 .f32) (b c : FVec Ideal S1x256 .f32)
    (d : Fin 256) :
    k0_pay47 (F := Ideal) (k0_pay46 x tr w b c) (ix2 0 d) = k0_pay44 (F := Ideal) x tr w b c (ix2 511 d) := by
  pointwise [k0_pay47, k0_pay46]

theorem pay48_at (tr : FVec Ideal S512x512 .f32) (g : FVec Ideal S512x1 .f32) (c : FVec Ideal S1x1 .f32)
    (i : Fin 512) {G : Fin 512 → ℝ} {C : ℝ} (htr : ∀ j, tr (ix2 i j) = (((if j ≤ i then 1 else 0 : ℝ)) : EReal))
    (hg : ∀ j, g (ix2 j 0) = ((G j : ℝ) : EReal)) (hc : c (ix2 0 0) = (C : EReal)) :
    k0_pay48 (F := Ideal) tr g c (ix2 i 0) = ((C + ∑ j, (if j ≤ i then G j else 0) : ℝ) : EReal) := by
  pointwise [k0_pay48]
  simp only [htr, hg, hc, ← EReal.coe_mul, ← EReal.coe_add, ← coe_sum]
  congr 1
  rw [add_comm]
  congr 1
  refine Finset.sum_congr rfl fun j _ => ?_
  split_ifs <;> simp

theorem pay49_at (tr : FVec Ideal S512x512 .f32) (g : FVec Ideal S512x1 .f32) (c : FVec Ideal S1x1 .f32) :
    k0_pay49 (F := Ideal) tr g c (ix2 0 0) = k0_pay48 (F := Ideal) tr g c (ix2 511 0) := by
  pointwise [k0_pay49]

theorem pay50_at (x : FVec Ideal S512x256 .f32) (kk : FVec Ideal S512x32 .f32) (a : FVec Ideal S512x256 .f32) (w1 : FVec Ideal S256x512 .f32)
    (b1 : FVec Ideal S1x256 .f32) (w2 : FVec Ideal S32x256 .f32) (b2 : FVec Ideal S1x32 .f32) (i : Fin 512) (k : Fin 64)
    {KR : Fin 32 → ℝ} (hk : ∀ p, kk (ix2 i p) = ((KR p : ℝ) : EReal)) :
    k0_pay50 (F := Ideal) x kk a w1 b1 w2 b2 (ix2 i k) =
      (((if h : k.val < 32 then KR ⟨k.val, h⟩ else
        phaseR (lin (fun g => gelu (lin (fun f : Fin 512 => if hf : f.val < 256 then x (ix2 i ⟨f.val, hf⟩) else a (ix2 i ⟨f.val - 256, by omega⟩))
          (fun m f => w1 (ix2 m f)) (fun m => b1 (ix2 0 m)) g)) (fun m g => w2 (ix2 m g)) (fun m => b2 (ix2 0 m)) ⟨k.val - 32, by omega⟩)) : ℝ) : EReal) := by
  split
  · pointwise [k0_pay50]
    rw [dif_pos ‹_›, hk]
  · rw [← tanh_mul_pi]
    pointwise [k0_pay50, lin, gelu]
    simp (disch := decide) only [ofBits_lit, lit_one, EReal.coe_one]
    rw [dif_neg ‹_›]
    rfl

theorem pay53_at (t : FVec Ideal S512x64 .f32) (sq m : FVec Ideal S512x64 .f32) (i : Fin 512) (k : Fin 64) {a : ℝ} (h : t (ix2 i k) = (a : EReal))
    (hsq : sq (ix2 i k) = ((a * a : ℝ) : EReal)) (hm : m (ix2 i k) = ((lit 0xB2B34B08#32 * (a * a) : ℝ) : EReal)) :
    k0_pay53 (F := Ideal) t sq m (ix2 i k) = ((sinR a : ℝ) : EReal) := by
  pointwise [k0_pay53]
  rw [h, hsq, hm]
  simp (disch := decide) only [ofBits_lit, ← EReal.coe_mul, ← EReal.coe_add]
  congr 1; unfold sinR; ring

theorem pay54_at (sq : FVec Ideal S512x64 .f32) (i : Fin 512) (k : Fin 64) {a : ℝ}
    (hsq : sq (ix2 i k) = ((a * a : ℝ) : EReal)) :
    k0_pay54 (F := Ideal) sq (ix2 i k) = ((cosR a : ℝ) : EReal) := by
  pointwise [k0_pay54]
  rw [hsq]
  simp (disch := decide) only [ofBits_lit, ← EReal.coe_mul, ← EReal.coe_add, ← EReal.coe_one, ← lit_one]
  congr 1; unfold cosR; ring

/-- The second trigonometry: cosines of the first half beside its sines. -/
theorem pay55_at (t sq m : FVec Ideal S512x64 .f32) (i : Fin 512) (k : Fin 64) {a : Fin 64 → ℝ} (h : ∀ k, t (ix2 i k) = ((a k : ℝ) : EReal))
    (hsq : ∀ k, sq (ix2 i k) = ((a k * a k : ℝ) : EReal)) (hm : ∀ k, m (ix2 i k) = ((lit 0xB2B34B08#32 * (a k * a k) : ℝ) : EReal)) :
    k0_pay55 (F := Ideal) t sq m (ix2 i k) =
      (((if hk : k.val < 32 then cosR (a ⟨k.val, by omega⟩) else sinR (a ⟨k.val - 32, by omega⟩)) : ℝ) : EReal) := by
  pointwise [k0_pay55]
  split
  · rw [pay54_at sq i _ (hsq _)]
  · rw [pay53_at t sq m i _ (h _) (hsq _) (hm _)]

/-- The same of the second half. -/
theorem pay56_at (t sq m : FVec Ideal S512x64 .f32) (i : Fin 512) (k : Fin 64) {a : Fin 64 → ℝ} (h : ∀ k, t (ix2 i k) = ((a k : ℝ) : EReal))
    (hsq : ∀ k, sq (ix2 i k) = ((a k * a k : ℝ) : EReal)) (hm : ∀ k, m (ix2 i k) = ((lit 0xB2B34B08#32 * (a k * a k) : ℝ) : EReal)) :
    k0_pay56 (F := Ideal) t sq m (ix2 i k) =
      (((if hk : k.val < 32 then cosR (a ⟨32 + k.val, by omega⟩) else sinR (a ⟨32 + (k.val - 32), by omega⟩)) : ℝ) : EReal) := by
  pointwise [k0_pay56]
  split
  · rw [pay54_at sq i _ (hsq _)]
  · rw [pay53_at t sq m i _ (h _) (hsq _) (hm _)]

theorem pay57_at (v : FVec Ideal S512x256 .f32) (g : FVec Ideal S512x1 .f32) (i : Fin 512) (d : Fin 256) :
    k0_pay57 (F := Ideal) v g (ix2 i d) = v (ix2 i d) * g (ix2 i 0) := by
  pointwise [k0_pay57]

theorem pay58_at (tr : FVec Ideal S512x512 .f32) (v : FVec Ideal S512x256 .f32) (g : FVec Ideal S512x1 .f32) (t sq m : FVec Ideal S512x64 .f32)
    (i : Fin 512) (d : Fin 256) {Q : Fin 64 → ℝ} {KR : Fin 512 → Fin 64 → ℝ} {X : Fin 512 → ℝ}
    (htr : ∀ j, tr (ix2 i j) = (((if j ≤ i then 1 else 0 : ℝ)) : EReal))
    (hq : ∀ k, k0_pay55 (F := Ideal) t sq m (ix2 i k) = ((Q k : ℝ) : EReal))
    (hK : ∀ j k, k0_pay56 (F := Ideal) t sq m (ix2 j k) = ((KR j k : ℝ) : EReal))
    (hx : ∀ j, k0_pay57 (F := Ideal) v g (ix2 j d) = ((X j : ℝ) : EReal)) :
    k0_pay58 (F := Ideal) tr v g t sq m (ix2 i d) = ((∑ k, Q k * (∑ j, if j ≤ i then KR j k * X j else 0) : ℝ) : EReal) := by
  pointwise [k0_pay58]
  simp only [htr, hq, hK, hx, ← EReal.coe_mul, ← EReal.coe_add, ← coe_sum]
  congr 1
  simp only [Finset.mul_sum, Finset.sum_mul]
  rw [Finset.sum_comm]
  refine Finset.sum_congr rfl fun k _ => Finset.sum_congr rfl fun j _ => ?_
  split_ifs <;> ring

theorem pay59_at (K : FVec Ideal S512x64 .f32) (x : FVec Ideal S512x256 .f32) (s2 : FVec Ideal S64x256 .f32) (k : Fin 64) (d : Fin 256)
    {KR : Fin 512 → ℝ} {X : Fin 512 → ℝ} {S : ℝ}
    (hK : ∀ j, K (ix2 j k) = ((KR j : ℝ) : EReal)) (hx : ∀ j, x (ix2 j d) = ((X j : ℝ) : EReal))
    (hS : s2 (ix2 k d) = ((S : ℝ) : EReal)) :
    k0_pay59 (F := Ideal) K x s2 (ix2 k d) = ((S + ∑ j, KR j * X j : ℝ) : EReal) := by
  pointwise [k0_pay59]
  simp only [hK, hx, hS, ← EReal.coe_mul, ← EReal.coe_add, ← coe_sum]

/-- The combined readings, normalized over the row. -/
theorem pay60_at (mu : FVec Ideal S512x256 .f32) (gc : FVec Ideal S512x1 .f32) (q : FVec Ideal S512x64 .f32) (r : FVec Ideal S512x256 .f32)
    (s2 : FVec Ideal S64x256 .f32) (lg lb : FVec Ideal S1x256 .f32) (i : Fin 512) (d : Fin 256)
    {M R : Fin 256 → ℝ} {G : ℝ} {Q : Fin 64 → ℝ} {S : Fin 64 → Fin 256 → ℝ} {C : Fin 256 → ℝ}
    (hmu : ∀ d, mu (ix2 i d) = ((M d : ℝ) : EReal)) (hg : gc (ix2 i 0) = (G : EReal)) (hq : ∀ k, q (ix2 i k) = ((Q k : ℝ) : EReal))
    (hr : ∀ d, r (ix2 i d) = ((R d : ℝ) : EReal)) (hS : ∀ k d, s2 (ix2 k d) = ((S k d : ℝ) : EReal))
    (hC : ∀ d, C d = M d + (R d + ∑ k, Q k * S k d) / (Real.sqrt (max G 1) * lit 0x40B504F3#32)) :
    k0_pay60 (F := Ideal) mu gc q r s2 lg lb (ix2 i d) =
      (((C d - (∑ e, C e) / 256) /
        Real.sqrt ((∑ e, (C e - (∑ e, C e) / 256) * (C e - (∑ e, C e) / 256)) / 256 + lit 0x3727C5AC#32) : ℝ) : EReal) *
        lg (ix2 0 d) + lb (ix2 0 d) := by
  pointwise [k0_pay60]
  rw [IdealRules.named_const.ideal_named_scalar _ _ _ _ rfl]
  have hG : 0 < max G 1 := lt_max_of_lt_right one_pos
  have hrs : Ideal.rsqrt (max (G : EReal) 1) = (((Real.sqrt (max G 1))⁻¹ : ℝ) : EReal) := by
    rw [← EReal.coe_one, ← EReal.coe_strictMono.monotone.map_max, Ideal.rsqrt_coe, if_neg (not_lt.2 hG.le), if_neg hG.ne']
  have hC' : ∀ e, M e + (R e + ∑ k, Q k * S k e) * ((Real.sqrt (max G 1))⁻¹ * (2097152 / 11863283)) = C e := by
    intro e
    rw [hC e, lit_sqrt_p]
    field_simp
  have hv : 0 < (∑ e, (C e - (∑ e, C e) / 256) * (C e - (∑ e, C e) / 256)) / 256 + lit 0x3727C5AC#32 := by
    have h1 : 0 < lit 0x3727C5AC#32 := by rw [lit_ln_eps]; norm_num
    have h2 : 0 ≤ ∑ e, (C e - (∑ e, C e) / 256) * (C e - (∑ e, C e) / 256) :=
      Finset.sum_nonneg fun e _ => mul_self_nonneg _
    linarith
  have h256 : lit 0x43800000#32 ≠ 0 := by rw [lit_256]; norm_num
  simp (disch := decide) only [hmu, hg, hq, hr, hS, hrs, ofBits_lit, ← EReal.coe_mul, ← EReal.coe_add, ← coe_sum, hC', div_real h256,
    ← EReal.coe_sub]
  rw [lit_256, Ideal.rsqrt_coe, if_neg (not_lt.2 hv.le), if_neg hv.ne', ← EReal.coe_mul]
  rfl

theorem pay1_at (x : FVec Ideal S512x256 .f32) (n : FVec Ideal S512x256 .f32) (w : FVec Ideal S256x256 .f32) (b : FVec Ideal S1x256 .f32)
    (i : Fin 512) (d : Fin 256) :
    k0_pay1 (F := Ideal) x n w b (ix3 0 i d) = x (ix2 i d) + (∑ k, n (ix2 i k) * w (ix2 d k)) + b (ix2 0 d) := by
  pointwise [k0_pay1]

end Cert.Phasor

end
-- ==== Proof.Block.lean ====
/- One grid point of the kernel: its input blocks, the carried state, and what it computes from them. -/
module

public import proofs.«01_k».proof.Proof.PayB
public import Idealize.ShloMosaic.Lib.Pipeline.ValueKit

@[expose] public section

set_option maxRecDepth 16384

noncomputable section

namespace Cert.Phasor

open Idealize.ShloMosaic Cert.KernelIdeal Cert.KernelIdeal.Gen
open scoped BigOperators

/-- The input blocks of a grid point. -/
structure Blk where
  i0 : FVec Ideal S1x512x256 .f32
  i1 : FVec Ideal S512x32 .f32
  i2 : FVec Ideal S256x256 .f32
  i3 : FVec Ideal S1x256 .f32
  i4 : FVec Ideal S4x128x288 .f32
  i5 : FVec Ideal S4x128 .f32
  i6 : FVec Ideal S4x33x128 .f32
  i7 : FVec Ideal S4x33 .f32
  i8 : FVec Ideal S4x33 .f32
  i9 : FVec Ideal S32x256 .f32
  i10 : FVec Ideal S1x32 .f32
  i11 : FVec Ideal S256x256 .f32
  i12 : FVec Ideal S1x256 .f32
  i13 : FVec Ideal S256x256 .f32
  i14 : FVec Ideal S1x256 .f32
  i15 : FVec Ideal S256x512 .f32
  i16 : FVec Ideal S1x256 .f32
  i17 : FVec Ideal S32x256 .f32
  i18 : FVec Ideal S1x32 .f32
  i19 : FVec Ideal S128x256 .f32
  i20 : FVec Ideal S1x128 .f32
  i21 : FVec Ideal S1x128 .f32
  i22 : FVec Ideal S1x1 .f32
  i23 : FVec Ideal S1x256 .f32
  i24 : FVec Ideal S1x256 .f32
  i25 : FVec Ideal S256x256 .f32
  i26 : FVec Ideal S1x256 .f32

/-- What is carried from one chunk of a row to the next: the two memories, the contexts' sum, the gates' sum, the triangle. -/
structure St where
  s1 : FVec Ideal S64x256 .f32
  s2 : FVec Ideal S64x256 .f32
  cx : FVec Ideal S1x256 .f32
  gc : FVec Ideal S1x1 .f32
  tr : FVec Ideal S512x512 .f32

/-- The state a row begins with. -/
def St.zero : St := ⟨k0_pay2, k0_pay3, k0_pay4, k0_pay5, k0_pay6⟩

variable (B : Blk) (n : ℕ) (S : St)

/-- Slices of the heads' arrays at an offset, each of the whole of one head or of its last row. -/
def cutW (x : FVec Ideal S4x128x288 .f32) (o : Fin 3 → ℕ) (q : ∀ a, o a + S1x128x288.size a ≤ S4x128x288.size a) : FVec Ideal S1x128x288 .f32 :=
  View.ld (Val := Elt Ideal) (e' := EltTy.f32) (S := S4x128x288) x (Rect.unit o S1x128x288.size q)
def cutB (x : FVec Ideal S4x128 .f32) (o : Fin 2 → ℕ) (q : ∀ a, o a + S1x128.size a ≤ S4x128.size a) : FVec Ideal S1x128 .f32 :=
  View.ld (Val := Elt Ideal) (e' := EltTy.f32) (S := S4x128) x (Rect.unit o S1x128.size q)
def cutV (x : FVec Ideal S4x33x128 .f32) (o : Fin 3 → ℕ) (q : ∀ a, o a + S1x32x128.size a ≤ S4x33x128.size a) : FVec Ideal S1x32x128 .f32 :=
  View.ld (Val := Elt Ideal) (e' := EltTy.f32) (S := S4x33x128) x (Rect.unit o S1x32x128.size q)
def cutC (x : FVec Ideal S4x33 .f32) (o : Fin 2 → ℕ) (q : ∀ a, o a + S1x32.size a ≤ S4x33.size a) : FVec Ideal S1x32 .f32 :=
  View.ld (Val := Elt Ideal) (e' := EltTy.f32) (S := S4x33) x (Rect.unit o S1x32.size q)
def cutR (x : FVec Ideal S4x33x128 .f32) (o : Fin 3 → ℕ) (q : ∀ a, o a + S1x1x128.size a ≤ S4x33x128.size a) : FVec Ideal S1x1x128 .f32 :=
  View.ld (Val := Elt Ideal) (e' := EltTy.f32) (S := S4x33x128) x (Rect.unit o S1x1x128.size q)
def cutE (x : FVec Ideal S4x33 .f32) (o : Fin 2 → ℕ) (q : ∀ a, o a + S1x1.size a ≤ S4x33.size a) : EReal :=
  View.ld (Val := Elt Ideal) (e' := EltTy.f32) (S := S4x33) x (Rect.unit o S1x1.size q) (Shape.Idx.first (s := S1x1) (by rw [numel1_S1x1]; exact Nat.one_pos))

theorem cutW_at (x : FVec Ideal S4x128x288 .f32) (h : Fin 4) {q} (m : Fin 128) (k : Fin 288) :
    cutW x ![h.val, 0, 0] q (ix3 0 m k) = x (ix3 h m k) := by
  refine congrArg x (funext fun a => Fin.ext ?_)
  fin_cases a <;> simp [LoadRect.idx, Rect.unit]
theorem cutB_at (x : FVec Ideal S4x128 .f32) (h : Fin 4) {q} (m : Fin 128) : cutB x ![h.val, 0] q (ix2 0 m) = x (ix2 h m) := by
  refine congrArg x (funext fun a => Fin.ext ?_)
  fin_cases a <;> simp [LoadRect.idx, Rect.unit]
theorem cutV_at (x : FVec Ideal S4x33x128 .f32) (h : Fin 4) {q} (p : Fin 32) (k : Fin 128) :
    cutV x ![h.val, 0, 0] q (ix3 0 p k) = x (ix3 h ⟨p.val, by omega⟩ k) := by
  refine congrArg x (funext fun a => Fin.ext ?_)
  fin_cases a <;> simp [LoadRect.idx, Rect.unit]
theorem cutC_at (x : FVec Ideal S4x33 .f32) (h : Fin 4) {q} (p : Fin 32) :
    cutC x ![h.val, 0] q (ix2 0 p) = x (ix2 h ⟨p.val, by omega⟩) := by
  refine congrArg x (funext fun a => Fin.ext ?_)
  fin_cases a <;> simp [LoadRect.idx, Rect.unit]
theorem cutR_at (x : FVec Ideal S4x33x128 .f32) (h : Fin 4) {q} (k : Fin 128) :
    cutR x ![h.val, 32, 0] q (ix3 0 0 k) = x (ix3 h 32 k) := by
  refine congrArg x (funext fun a => Fin.ext ?_)
  fin_cases a <;> simp [LoadRect.idx, Rect.unit]
theorem cutE_at (x : FVec Ideal S4x33 .f32) (h : Fin 4) {q} : cutE x ![h.val, 32] q = x (ix2 h 32) := by
  refine congrArg x (funext fun a => Fin.ext ?_)
  fin_cases a <;> simp [LoadRect.idx, Rect.unit, Shape.Idx.first]

/-- The rows of `x`, and the heads' input. -/
def Blk.xx : FVec Ideal S512x256 .f32 := k0_pay7 B.i0
def Blk.fe : FVec Ideal S512x288 .f32 := k0_pay16 B.xx (k0_pay8 B.i1)

/-- The phases of the first three heads before the hyperbolic tangent. -/
def Blk.o0 : FVec Ideal S512x32 .f32 :=
  k0_pay19 (k0_pay17 B.xx (k0_pay8 B.i1) (cutW B.i4 ![0, 0, 0] inb_S4x128x288_S1x128x288_0_0_0)
      (cutB B.i5 ![0, 0] inb_S4x128_S1x128_0_0))
    (k0_pay18 (cutV B.i6 ![0, 0, 0] inb_S4x33x128_S1x32x128_0_0_0))
    (cutC B.i7 ![0, 0] inb_S4x33_S1x32_0_0)
def Blk.o1 : FVec Ideal S512x32 .f32 :=
  k0_pay22 B.fe (cutW B.i4 ![1, 0, 0] inb_S4x128x288_S1x128x288_1_0_0)
    (cutB B.i5 ![1, 0] inb_S4x128_S1x128_1_0)
    (cutV B.i6 ![1, 0, 0] inb_S4x33x128_S1x32x128_1_0_0)
    (cutC B.i7 ![1, 0] inb_S4x33_S1x32_1_0)
def Blk.o2 : FVec Ideal S512x32 .f32 :=
  k0_pay25 B.fe (cutW B.i4 ![2, 0, 0] inb_S4x128x288_S1x128x288_2_0_0)
    (cutB B.i5 ![2, 0] inb_S4x128_S1x128_2_0)
    (cutV B.i6 ![2, 0, 0] inb_S4x33x128_S1x32x128_2_0_0)
    (cutC B.i7 ![2, 0] inb_S4x33_S1x32_2_0)

/-- The phases of the four heads, side by side. -/
def Blk.offs : FVec Ideal S512x128 .f32 :=
  k0_pay28 B.fe B.o0 B.o1 B.o2 (cutW B.i4 ![3, 0, 0] inb_S4x128x288_S1x128x288_3_0_0)
    (cutB B.i5 ![3, 0] inb_S4x128_S1x128_3_0)
    (cutV B.i6 ![3, 0, 0] inb_S4x33x128_S1x32x128_3_0_0)
    (cutC B.i7 ![3, 0] inb_S4x33_S1x32_3_0)

/-- The widths of the first three heads, the third without its bias. -/
def Blk.w0 : FVec Ideal S512x1 .f32 :=
  k0_pay20 (k0_pay17 B.xx (k0_pay8 B.i1) (cutW B.i4 ![0, 0, 0] inb_S4x128x288_S1x128x288_0_0_0)
      (cutB B.i5 ![0, 0] inb_S4x128_S1x128_0_0))
    (cutR B.i6 ![0, 32, 0] inb_S4x33x128_S1x1x128_0_32_0)
    (cutE B.i8 ![0, 32] inb_S4x33_S1x1_0_32)
def Blk.w1 : FVec Ideal S512x1 .f32 :=
  k0_pay23 (k0_pay21 B.fe (cutW B.i4 ![1, 0, 0] inb_S4x128x288_S1x128x288_1_0_0)
      (cutB B.i5 ![1, 0] inb_S4x128_S1x128_1_0))
    (cutR B.i6 ![1, 32, 0] inb_S4x33x128_S1x1x128_1_32_0)
    (cutE B.i8 ![1, 32] inb_S4x33_S1x1_1_32)
def Blk.w2 : FVec Ideal S512x1 .f32 :=
  k0_pay26 B.fe (cutW B.i4 ![2, 0, 0] inb_S4x128x288_S1x128x288_2_0_0)
    (cutB B.i5 ![2, 0] inb_S4x128_S1x128_2_0)
    (cutR B.i6 ![2, 32, 0] inb_S4x33x128_S1x1x128_2_32_0)

/-- The heads' gains. -/
def Blk.gains : FVec Ideal S512x4 .f32 :=
  k0_pay30 (k0_pay29 B.fe B.w0 B.w1 B.w2 (cutE B.i8 ![2, 32] inb_S4x33_S1x1_2_32)
      (cutW B.i4 ![3, 0, 0] inb_S4x128x288_S1x128x288_3_0_0)
      (cutB B.i5 ![3, 0] inb_S4x128_S1x128_3_0)
      (cutR B.i6 ![3, 32, 0] inb_S4x33x128_S1x1x128_3_32_0)
      (cutE B.i8 ![3, 32] inb_S4x33_S1x1_3_32))
    (Scalar.ofBits .f32 0x40000000#32)

/-- The reading vector of the first memory. -/
def Blk.qeff : FVec Ideal S512x64 .f32 :=
  k0_pay37 (k0_pay11 B.i1) (k0_pay13 (k0_pay10 B.i1) (k0_pay12 B.i1) (Scalar.ofBits .f32 0x37CFD082#32)) B.offs k0_pay33
    (k0_pay34 B.gains (iota .tc S4x128 32 [1] iota_S4x128_d1_w32) 32#32 k0_pay31 k0_pay32 1#1) (k0_pay35 B.offs) (k0_pay36 B.offs)

/-- The positions' cosines and sines, the content, the value and the gate. -/
def Blk.kt : FVec Ideal S64x512 .f32 := k0_pay14 (k0_pay10 B.i1) (k0_pay11 B.i1) (k0_pay12 B.i1) (Scalar.ofBits .f32 0x37CFD082#32)
def Blk.cont : FVec Ideal S512x256 .f32 := k0_pay15 B.xx B.i2 B.i3
def Blk.val : FVec Ideal S512x256 .f32 := k0_pay41 B.xx B.i11 B.i12
def Blk.gate : FVec Ideal S512x1 .f32 := k0_pay43 (k0_pay42 B.xx B.i19 B.i20) (Scalar.ofBits .f32 0x3F000000#32) B.i21 B.i22

/-- The mean of the contexts. -/
def Blk.avg : FVec Ideal S512x256 .f32 := k0_pay45 (BitVec.ofNat 32 n) B.xx S.tr B.i13 B.i14 S.cx

/-- The phases of the key beside those of the storage, their squares, and the first product of the sine's polynomial. -/
def Blk.ph : FVec Ideal S512x64 .f32 := k0_pay50 B.xx (k0_pay40 B.xx B.i9 B.i10) (B.avg n S) B.i15 B.i16 B.i17 B.i18
def Blk.ph2 : FVec Ideal S512x64 .f32 := k0_pay51 B.xx (k0_pay40 B.xx B.i9 B.i10) (B.avg n S) B.i15 B.i16 B.i17 B.i18
def Blk.phm : FVec Ideal S512x64 .f32 := k0_pay52 B.xx (k0_pay40 B.xx B.i9 B.i10) (B.avg n S) B.i15 B.i16 B.i17 B.i18

/-- The carried state after the chunk. -/
def Blk.next : St where
  s1 := k0_pay39 B.kt B.cont S.s1
  s2 := k0_pay59 (k0_pay56 (B.ph n S) (B.ph2 n S) (B.phm n S)) (k0_pay57 B.val B.gate) S.s2
  cx := k0_pay47 (k0_pay46 B.xx S.tr B.i13 B.i14 S.cx)
  gc := k0_pay49 S.tr B.gate S.gc
  tr := S.tr

/-- The result's block. -/
def Blk.out : FVec Ideal S1x512x256 .f32 :=
  k0_pay1 B.xx
    (k0_pay60 (k0_pay38 S.tr B.kt B.cont B.qeff (constant S512x512 .f32 0x00000000#32) S.s1) (k0_pay48 S.tr B.gate S.gc)
      (k0_pay55 (B.ph n S) (B.ph2 n S) (B.phm n S)) (k0_pay58 S.tr B.val B.gate (B.ph n S) (B.ph2 n S) (B.phm n S)) S.s2 B.i23 B.i24)
    B.i25 B.i26

end Cert.Phasor

end
-- ==== Proof.StepDefs.lean ====
/- The input blocks of a grid point, and the carried arrays after it. -/
module

public import proofs.«01_k».proof.Proof.Gen.Own.KernelIdeal.Value
public import proofs.«01_k».proof.Proof.Block
public import Idealize.ShloMosaic.Lib.Pipeline.ReadBack

@[expose] public section

set_option maxRecDepth 16384

noncomputable section

namespace Cert.Phasor

open Idealize.ShloMosaic Idealize.SL.Sem Cert.KernelIdeal Cert.KernelIdeal.Gen

variable (m : (ℓ : Loc nD τ sig) → Buf (Elt Ideal) ℓ)

/-- The input blocks of grid point `t`. -/
def blkAt (c : Dev nD) (t : Fin cfg0.N) : Blk where
  i0 := iblk m c 0 t
  i1 := iblk m c 1 t
  i2 := iblk m c 2 t
  i3 := iblk m c 3 t
  i4 := iblk m c 4 t
  i5 := iblk m c 5 t
  i6 := iblk m c 6 t
  i7 := iblk m c 7 t
  i8 := iblk m c 8 t
  i9 := iblk m c 9 t
  i10 := iblk m c 10 t
  i11 := iblk m c 11 t
  i12 := iblk m c 12 t
  i13 := iblk m c 13 t
  i14 := iblk m c 14 t
  i15 := iblk m c 15 t
  i16 := iblk m c 16 t
  i17 := iblk m c 17 t
  i18 := iblk m c 18 t
  i19 := iblk m c 19 t
  i20 := iblk m c 20 t
  i21 := iblk m c 21 t
  i22 := iblk m c 22 t
  i23 := iblk m c 23 t
  i24 := iblk m c 24 t
  i25 := iblk m c 25 t
  i26 := iblk m c 26 t

/-- The carried arrays after grid point `n`. -/
def stAt (c : Dev nD) (n : ℕ) (h : n < cfg0.N) : St :=
  ⟨(outsAt0 (F := Ideal) m c n h).2.1, (outsAt0 (F := Ideal) m c n h).2.2.1, (outsAt0 (F := Ideal) m c n h).2.2.2.1,
    (outsAt0 (F := Ideal) m c n h).2.2.2.2.1, (outsAt0 (F := Ideal) m c n h).2.2.2.2.2⟩

end Cert.Phasor

end
-- ==== Proof.Step.lean ====
/- The carried arrays after a grid point, as one step from the carried arrays before it. -/
module

public import proofs.«01_k».proof.Proof.StepDefs

@[expose] public section

set_option maxRecDepth 16384

noncomputable section

namespace Cert.Phasor

open Idealize.ShloMosaic Idealize.SL.Sem Cert.KernelIdeal Cert.KernelIdeal.Gen

variable (m : (ℓ : Loc nD τ sig) → Buf (Elt Ideal) ℓ)

theorem stepA_s1 (c : Dev nD) (t : Fin cfg0.N) (h : t.val % 4 = 0) :
    (outsAt0 (F := Ideal) m c t.val t.isLt).2.1 = ((blkAt m c t).next (grid0.coords t 1) St.zero).s1 := by
  rw [outsAt0_A m c t h]
  dsimp only
  frame_out
  rfl

set_option maxHeartbeats 4000000 in
theorem stepA_s2 (c : Dev nD) (t : Fin cfg0.N) (h : t.val % 4 = 0) :
    (outsAt0 (F := Ideal) m c t.val t.isLt).2.2.1 = ((blkAt m c t).next (grid0.coords t 1) St.zero).s2 := by
  rw [outsAt0_A m c t h]
  dsimp only
  frame_out
  rfl

theorem stepA_cx (c : Dev nD) (t : Fin cfg0.N) (h : t.val % 4 = 0) :
    (outsAt0 (F := Ideal) m c t.val t.isLt).2.2.2.1 = ((blkAt m c t).next (grid0.coords t 1) St.zero).cx := by
  rw [outsAt0_A m c t h]
  dsimp only
  frame_out
  rfl

theorem stepA_gc (c : Dev nD) (t : Fin cfg0.N) (h : t.val % 4 = 0) :
    (outsAt0 (F := Ideal) m c t.val t.isLt).2.2.2.2.1 = ((blkAt m c t).next (grid0.coords t 1) St.zero).gc := by
  rw [outsAt0_A m c t h]
  dsimp only
  frame_out
  rfl

theorem stepA_tr (c : Dev nD) (t : Fin cfg0.N) (h : t.val % 4 = 0) :
    (outsAt0 (F := Ideal) m c t.val t.isLt).2.2.2.2.2 = ((blkAt m c t).next (grid0.coords t 1) St.zero).tr := by
  rw [outsAt0_A m c t h]
  dsimp only
  frame_out
  rfl

/-- The first chunk of a row. -/
theorem stepA (c : Dev nD) (t : Fin cfg0.N) (h : t.val % 4 = 0) :
    stAt m c t.val t.isLt = (blkAt m c t).next (grid0.coords t 1) St.zero := by
  unfold stAt
  rw [stepA_s1 m c t h, stepA_s2 m c t h, stepA_cx m c t h, stepA_gc m c t h, stepA_tr m c t h]

set_option maxHeartbeats 4000000 in
theorem stepB_s1 (c : Dev nD) (t : Fin cfg0.N) (h : ¬ t.val % 4 = 0) :
    (outsAt0 (F := Ideal) m c t.val t.isLt).2.1 =
      ((blkAt m c t).next (grid0.coords t 1) (stAt m c (t.val - 1) (Nat.lt_of_le_of_lt (Nat.sub_le _ _) t.isLt))).s1 := by
  rw [outsAt0_B m c t h]
  dsimp only
  frame_out
  simp only [read_unread_whole]
  rfl

set_option maxHeartbeats 4000000 in
theorem stepB_s2 (c : Dev nD) (t : Fin cfg0.N) (h : ¬ t.val % 4 = 0) :
    (outsAt0 (F := Ideal) m c t.val t.isLt).2.2.1 =
      ((blkAt m c t).next (grid0.coords t 1) (stAt m c (t.val - 1) (Nat.lt_of_le_of_lt (Nat.sub_le _ _) t.isLt))).s2 := by
  rw [outsAt0_B m c t h]
  dsimp only
  frame_out
  simp only [read_unread_whole]
  rfl

set_option maxHeartbeats 4000000 in
theorem stepB_cx (c : Dev nD) (t : Fin cfg0.N) (h : ¬ t.val % 4 = 0) :
    (outsAt0 (F := Ideal) m c t.val t.isLt).2.2.2.1 =
      ((blkAt m c t).next (grid0.coords t 1) (stAt m c (t.val - 1) (Nat.lt_of_le_of_lt (Nat.sub_le _ _) t.isLt))).cx := by
  rw [outsAt0_B m c t h]
  dsimp only
  frame_out
  simp only [read_unread_whole]
  rfl

set_option maxHeartbeats 4000000 in
theorem stepB_gc (c : Dev nD) (t : Fin cfg0.N) (h : ¬ t.val % 4 = 0) :
    (outsAt0 (F := Ideal) m c t.val t.isLt).2.2.2.2.1 =
      ((blkAt m c t).next (grid0.coords t 1) (stAt m c (t.val - 1) (Nat.lt_of_le_of_lt (Nat.sub_le _ _) t.isLt))).gc := by
  rw [outsAt0_B m c t h]
  dsimp only
  frame_out
  simp only [read_unread_whole]
  rfl

theorem stepB_tr (c : Dev nD) (t : Fin cfg0.N) (h : ¬ t.val % 4 = 0) :
    (outsAt0 (F := Ideal) m c t.val t.isLt).2.2.2.2.2 =
      ((blkAt m c t).next (grid0.coords t 1) (stAt m c (t.val - 1) (Nat.lt_of_le_of_lt (Nat.sub_le _ _) t.isLt))).tr := by
  rw [outsAt0_B m c t h]
  dsimp only
  rfl

/-- A later chunk of a row. -/
theorem stepB (c : Dev nD) (t : Fin cfg0.N) (h : ¬ t.val % 4 = 0) :
    stAt m c t.val t.isLt = (blkAt m c t).next (grid0.coords t 1) (stAt m c (t.val - 1) (Nat.lt_of_le_of_lt (Nat.sub_le _ _) t.isLt)) := by
  unfold stAt
  rw [stepB_s1 m c t h, stepB_s2 m c t h, stepB_cx m c t h, stepB_gc m c t h, stepB_tr m c t h]
  rfl

end Cert.Phasor

end
-- ==== Proof.OutA.lean ====
/- The result's block after the first chunk of a row. -/
module

public import proofs.«01_k».proof.Proof.StepDefs

@[expose] public section

set_option maxRecDepth 16384

noncomputable section

namespace Cert.Phasor

open Idealize.ShloMosaic Idealize.SL.Sem Cert.KernelIdeal Cert.KernelIdeal.Gen

variable (m : (ℓ : Loc nD τ sig) → Buf (Elt Ideal) ℓ)

set_option maxHeartbeats 4000000 in
theorem stepA_out (c : Dev nD) (t : Fin cfg0.N) (h : t.val % 4 = 0) :
    (outsAt0 (F := Ideal) m c t.val t.isLt).1 = (blkAt m c t).out (grid0.coords t 1) St.zero := by
  rw [outsAt0_A m c t h]
  dsimp only
  frame_out
  generalize hx : k0_pay7 (F := Ideal) _ = X
  obtain rfl : (blkAt m c t).xx = X := hx
  generalize hx : k0_pay16 (F := Ideal) _ _ = X
  obtain rfl : (blkAt m c t).fe = X := hx
  generalize hx : k0_pay19 (F := Ideal) _ _ _ = X
  obtain rfl : (blkAt m c t).o0 = X := hx
  generalize hx : k0_pay22 (F := Ideal) _ _ _ _ _ = X
  obtain rfl : (blkAt m c t).o1 = X := hx
  generalize hx : k0_pay25 (F := Ideal) _ _ _ _ _ = X
  obtain rfl : (blkAt m c t).o2 = X := hx
  generalize hx : k0_pay28 (F := Ideal) _ _ _ _ _ _ _ _ = X
  obtain rfl : (blkAt m c t).offs = X := hx
  generalize hx : k0_pay20 (F := Ideal) _ _ _ = X
  obtain rfl : (blkAt m c t).w0 = X := hx
  generalize hx : k0_pay23 (F := Ideal) _ _ _ = X
  obtain rfl : (blkAt m c t).w1 = X := hx
  generalize hx : k0_pay26 (F := Ideal) _ _ _ _ = X
  obtain rfl : (blkAt m c t).w2 = X := hx
  generalize hx : k0_pay30 (F := Ideal) _ _ = X
  obtain rfl : (blkAt m c t).gains = X := hx
  generalize hx : k0_pay37 (F := Ideal) _ _ _ _ _ _ _ = X
  obtain rfl : (blkAt m c t).qeff = X := hx
  generalize hx : k0_pay14 (F := Ideal) _ _ _ _ = X
  obtain rfl : (blkAt m c t).kt = X := hx
  generalize hx : k0_pay15 (F := Ideal) _ _ _ = X
  obtain rfl : (blkAt m c t).cont = X := hx
  generalize hx : k0_pay41 (F := Ideal) _ _ _ = X
  obtain rfl : (blkAt m c t).val = X := hx
  generalize hx : k0_pay43 (F := Ideal) _ _ _ _ = X
  obtain rfl : (blkAt m c t).gate = X := hx
  generalize hx : k0_pay45 (F := Ideal) _ _ _ _ _ _ = X
  obtain rfl : (blkAt m c t).avg (grid0.coords t 1) St.zero = X := hx
  generalize hx : k0_pay50 (F := Ideal) _ _ _ _ _ _ _ = X
  obtain rfl : (blkAt m c t).ph (grid0.coords t 1) St.zero = X := hx
  generalize hx : k0_pay51 (F := Ideal) _ _ _ _ _ _ _ = X
  obtain rfl : (blkAt m c t).ph2 (grid0.coords t 1) St.zero = X := hx
  generalize hx : k0_pay52 (F := Ideal) _ _ _ _ _ _ _ = X
  obtain rfl : (blkAt m c t).phm (grid0.coords t 1) St.zero = X := hx
  rfl

end Cert.Phasor

end
-- ==== Proof.OutB.lean ====
/- The result's block after a later chunk of a row. -/
module

public import proofs.«01_k».proof.Proof.StepDefs

@[expose] public section

set_option maxRecDepth 16384

noncomputable section

namespace Cert.Phasor

open Idealize.ShloMosaic Idealize.SL.Sem Cert.KernelIdeal Cert.KernelIdeal.Gen

variable (m : (ℓ : Loc nD τ sig) → Buf (Elt Ideal) ℓ)

set_option maxHeartbeats 4000000 in
theorem stepB_out (c : Dev nD) (t : Fin cfg0.N) (h : ¬ t.val % 4 = 0) :
    (outsAt0 (F := Ideal) m c t.val t.isLt).1 =
      (blkAt m c t).out (grid0.coords t 1) (stAt m c (t.val - 1) (Nat.lt_of_le_of_lt (Nat.sub_le _ _) t.isLt)) := by
  rw [outsAt0_B m c t h]
  dsimp only
  frame_out
  simp only [read_unread_whole]
  generalize hx : k0_pay7 (F := Ideal) _ = X
  obtain rfl : (blkAt m c t).xx = X := hx
  generalize hx : k0_pay16 (F := Ideal) _ _ = X
  obtain rfl : (blkAt m c t).fe = X := hx
  generalize hx : k0_pay19 (F := Ideal) _ _ _ = X
  obtain rfl : (blkAt m c t).o0 = X := hx
  generalize hx : k0_pay22 (F := Ideal) _ _ _ _ _ = X
  obtain rfl : (blkAt m c t).o1 = X := hx
  generalize hx : k0_pay25 (F := Ideal) _ _ _ _ _ = X
  obtain rfl : (blkAt m c t).o2 = X := hx
  generalize hx : k0_pay28 (F := Ideal) _ _ _ _ _ _ _ _ = X
  obtain rfl : (blkAt m c t).offs = X := hx
  generalize hx : k0_pay20 (F := Ideal) _ _ _ = X
  obtain rfl : (blkAt m c t).w0 = X := hx
  generalize hx : k0_pay23 (F := Ideal) _ _ _ = X
  obtain rfl : (blkAt m c t).w1 = X := hx
  generalize hx : k0_pay26 (F := Ideal) _ _ _ _ = X
  obtain rfl : (blkAt m c t).w2 = X := hx
  generalize hx : k0_pay30 (F := Ideal) _ _ = X
  obtain rfl : (blkAt m c t).gains = X := hx
  generalize hx : k0_pay37 (F := Ideal) _ _ _ _ _ _ _ = X
  obtain rfl : (blkAt m c t).qeff = X := hx
  generalize hx : k0_pay14 (F := Ideal) _ _ _ _ = X
  obtain rfl : (blkAt m c t).kt = X := hx
  generalize hx : k0_pay15 (F := Ideal) _ _ _ = X
  obtain rfl : (blkAt m c t).cont = X := hx
  generalize hx : k0_pay41 (F := Ideal) _ _ _ = X
  obtain rfl : (blkAt m c t).val = X := hx
  generalize hx : k0_pay43 (F := Ideal) _ _ _ _ = X
  obtain rfl : (blkAt m c t).gate = X := hx
  generalize hx : k0_pay45 (F := Ideal) _ _ _ _ _ _ = X
  obtain rfl : (blkAt m c t).avg (grid0.coords t 1) (stAt m c (t.val - 1) (Nat.lt_of_le_of_lt (Nat.sub_le _ _) t.isLt)) = X := hx
  generalize hx : k0_pay50 (F := Ideal) _ _ _ _ _ _ _ = X
  obtain rfl : (blkAt m c t).ph (grid0.coords t 1) (stAt m c (t.val - 1) (Nat.lt_of_le_of_lt (Nat.sub_le _ _) t.isLt)) = X := hx
  generalize hx : k0_pay51 (F := Ideal) _ _ _ _ _ _ _ = X
  obtain rfl : (blkAt m c t).ph2 (grid0.coords t 1) (stAt m c (t.val - 1) (Nat.lt_of_le_of_lt (Nat.sub_le _ _) t.isLt)) = X := hx
  generalize hx : k0_pay52 (F := Ideal) _ _ _ _ _ _ _ = X
  obtain rfl : (blkAt m c t).phm (grid0.coords t 1) (stAt m c (t.val - 1) (Nat.lt_of_le_of_lt (Nat.sub_le _ _) t.isLt)) = X := hx
  rfl

end Cert.Phasor

end
-- ==== Proof.Prefix.lean ====
/- Sums over the positions, split at a chunk's beginning. -/
module

public import proofs.«01_k».proof.Proof.Spec

@[expose] public section

noncomputable section

namespace Cert.Phasor

open Idealize.ShloMosaic
open scoped BigOperators

/-- Row `i` of chunk `n`. -/
def pos (n : Fin 4) (i : Fin 512) : Fin 2048 := ⟨512 * n.val + i.val, by omega⟩

/-- The sum over the positions before position `512 n`. -/
def before {M : Type} [AddCommMonoid M] (n : ℕ) (f : Fin 2048 → M) : M := ∑ j : Fin 2048, if j.val < 512 * n then f j else 0

theorem before_zero {M : Type} [AddCommMonoid M] (f : Fin 2048 → M) : before 0 f = 0 := by
  simp [before]

theorem sum_upto {M : Type} [AddCommMonoid M] (n : Fin 4) (i : Fin 512) (f : Fin 2048 → M) :
    (∑ j : Fin 2048, if j ≤ pos n i then f j else 0) = before n.val f + ∑ j : Fin 512, if j ≤ i then f (pos n j) else 0 := by
  have h : (∑ j : Fin 512, if j ≤ i then f (pos n j) else 0) =
      ∑ j : Fin 2048, if 512 * n.val ≤ j.val ∧ j ≤ pos n i then f j else 0 := by
    refine Finset.sum_of_injOn (pos n) ?_ (fun _ _ => Finset.mem_coe.2 (Finset.mem_univ _)) ?_ ?_
    · intro a _ b _ hab
      have := congrArg Fin.val hab
      simp only [pos] at this
      exact Fin.ext (by omega)
    · intro j _ hj
      rw [if_neg]
      rintro ⟨h1, h2⟩
      have h2' : j.val ≤ 512 * n.val + i.val := h2
      exact hj ⟨⟨j.val - 512 * n.val, by omega⟩, Finset.mem_coe.2 (Finset.mem_univ _), Fin.ext (by simp only [pos]; omega)⟩
    · intro j _
      have e : (j ≤ i) ↔ (512 * n.val ≤ (pos n j).val ∧ pos n j ≤ pos n i) := by
        simp only [Fin.le_def, pos]; omega
      by_cases hj : j ≤ i
      · rw [if_pos hj, if_pos (e.1 hj)]
      · rw [if_neg hj, if_neg (fun h => hj (e.2 h))]
  rw [h, before, ← Finset.sum_add_distrib]
  refine Finset.sum_congr rfl fun j _ => ?_
  by_cases h1 : j.val < 512 * n.val
  · have h2 : j ≤ pos n i := by simp only [Fin.le_def, pos]; omega
    have h3 : ¬ (512 * n.val ≤ j.val ∧ j ≤ pos n i) := fun h => absurd h.1 (by omega)
    rw [if_pos h2, if_pos h1, if_neg h3, add_zero]
  · by_cases h2 : j ≤ pos n i
    · rw [if_pos h2, if_neg h1, if_pos ⟨by omega, h2⟩, zero_add]
    · rw [if_neg h2, if_neg h1, if_neg (fun h => h2 h.2), zero_add]

theorem before_succ {M : Type} [AddCommMonoid M] (n : Fin 4) (f : Fin 2048 → M) :
    before (n.val + 1) f = before n.val f + ∑ j : Fin 512, f (pos n j) := by
  have h := sum_upto n ⟨511, by omega⟩ f
  have e : (∑ j : Fin 512, if j ≤ ⟨511, by omega⟩ then f (pos n j) else 0) = ∑ j : Fin 512, f (pos n j) :=
    Finset.sum_congr rfl fun j _ => if_pos (by simp only [Fin.le_def]; omega)
  rw [e] at h
  rw [← h, before]
  refine Finset.sum_congr rfl fun j _ => ?_
  by_cases h1 : j.val < 512 * (n.val + 1)
  · rw [if_pos h1, if_pos (by simp only [Fin.le_def, pos]; omega)]
  · rw [if_neg h1, if_neg (by simp only [Fin.le_def, pos]; omega)]

theorem upto_pos (n : Fin 4) (i : Fin 512) (f : Fin 2048 → ℝ) :
    upto (pos n i) f = before n.val f + ∑ j : Fin 512, if j ≤ i then f (pos n j) else 0 := sum_upto n i f

/-- A sum over sixty-four, as two over thirty-two. -/
theorem sum64 {M : Type} [AddCommMonoid M] (f : Fin 64 → M) :
    (∑ k, f k) = (∑ p : Fin 32, f ⟨p.val, by omega⟩) + ∑ p : Fin 32, f ⟨32 + p.val, by omega⟩ :=
  Fin.sum_univ_add (a := 32) (b := 32) f

/-- The reading of the first memory: the heads' gains times the heads' readings. -/
theorem heads_sum (A : Args) (b : Fin 2) (l : Fin 2048) (d : Fin 256) :
    (∑ p : Fin 32, (cosR (posT A l p) * (∑ h, (524288 / 11863283 * gainR (wpre A b l h)) * cosR (center A b l h p)) -
        sinR (posT A l p) * (∑ h, (524288 / 11863283 * gainR (wpre A b l h)) * sinR (center A b l h p))) * memC A b l p d) +
      (∑ p : Fin 32, (sinR (posT A l p) * (∑ h, (524288 / 11863283 * gainR (wpre A b l h)) * cosR (center A b l h p)) +
        cosR (posT A l p) * (∑ h, (524288 / 11863283 * gainR (wpre A b l h)) * sinR (center A b l h p))) * memS A b l p d) =
      multiR A b l d := by
  unfold multiR headX
  rw [lit_sqrt_p, Finset.sum_div, ← Finset.sum_add_distrib]
  simp only [Finset.mul_sum, Finset.sum_div, ← Finset.sum_sub_distrib, ← Finset.sum_add_distrib, Finset.sum_mul]
  rw [Finset.sum_comm]
  refine Finset.sum_congr rfl fun h _ => Finset.sum_congr rfl fun p _ => ?_
  ring

/-- The second memory's reading. -/
theorem kv_sum (A : Args) (b : Fin 2) (l : Fin 2048) (d : Fin 256) :
    ((∑ p : Fin 32, cosR (keyR A b l p) * kvC A b l p d) + ∑ p : Fin 32, sinR (keyR A b l p) * kvS A b l p d) /
      (Real.sqrt (max (gateCum A b l) 1) * lit 0x40B504F3#32) = kvR A b l d := by
  unfold kvR
  congr 2 <;> exact Finset.sum_congr rfl fun p _ => mul_comm _ _

end Cert.Phasor

end
-- ==== Proof.Sem.lean ====
/- What a grid point computes, when its blocks hold the arguments' rows and its state the sums over the positions before the chunk. -/
module

public import proofs.«01_k».proof.Proof.Block
public import proofs.«01_k».proof.Proof.Prefix

@[expose] public section

set_option maxRecDepth 16384

noncomputable section

namespace Cert.Phasor

open Idealize.ShloMosaic Cert.KernelIdeal Cert.KernelIdeal.Gen
open scoped BigOperators

/-- The blocks hold the arguments' rows. -/
structure Fits (A : Args) (b : Fin 2) (n : Fin 4) (B : Blk) : Prop where
  h0 : ∀ i k, B.i0 (ix3 0 i k) = A.x b (pos n i) k
  h1 : ∀ i p, B.i1 (ix2 i p) = A.pp (pos n i) p
  h2 : ∀ d k, B.i2 (ix2 d k) = A.wc d k
  h3 : ∀ d, B.i3 (ix2 0 d) = A.bc d
  h4 : ∀ h g f, B.i4 (ix3 h g f) = A.hw1 h g f
  h5 : ∀ h g, B.i5 (ix2 h g) = A.hb1 h g
  h6 : ∀ h p g, B.i6 (ix3 h p g) = A.hw2 h p g
  h7 : ∀ h p, B.i7 (ix2 h p) = A.hb2 h p
  h8 : ∀ h p, B.i8 (ix2 h p) = A.hb2 h p
  h9 : ∀ p k, B.i9 (ix2 p k) = A.wk p k
  h10 : ∀ p, B.i10 (ix2 0 p) = A.bk p
  h11 : ∀ d k, B.i11 (ix2 d k) = A.wv d k
  h12 : ∀ d, B.i12 (ix2 0 d) = A.bv d
  h13 : ∀ d k, B.i13 (ix2 d k) = A.wx d k
  h14 : ∀ d, B.i14 (ix2 0 d) = A.bx d
  h15 : ∀ d f, B.i15 (ix2 d f) = A.kw1 d f
  h16 : ∀ d, B.i16 (ix2 0 d) = A.kb1 d
  h17 : ∀ p g, B.i17 (ix2 p g) = A.kw2 p g
  h18 : ∀ p, B.i18 (ix2 0 p) = A.kb2 p
  h19 : ∀ g k, B.i19 (ix2 g k) = A.gw1 g k
  h20 : ∀ g, B.i20 (ix2 0 g) = A.gb1 g
  h21 : ∀ g, B.i21 (ix2 0 g) = A.gw2 g
  h22 : B.i22 (ix2 0 0) = A.gb2
  h23 : ∀ d, B.i23 (ix2 0 d) = A.lg d
  h24 : ∀ d, B.i24 (ix2 0 d) = A.lb d
  h25 : ∀ d k, B.i25 (ix2 d k) = A.wo d k
  h26 : ∀ d, B.i26 (ix2 0 d) = A.bo d

/-- A position's cosines and sines, of the first memory and of the second. -/
def key1 (A : Args) (j : Fin 2048) (k : Fin 64) : ℝ :=
  if hk : k.val < 32 then cosR (posT A j ⟨k.val, hk⟩) else sinR (posT A j ⟨k.val - 32, by omega⟩)
def key2 (A : Args) (b : Fin 2) (j : Fin 2048) (k : Fin 64) : ℝ :=
  if hk : k.val < 32 then cosR (spR A b j ⟨k.val, hk⟩) else sinR (spR A b j ⟨k.val - 32, by omega⟩)

/-- The state holds the sums over the positions before chunk `n`. -/
structure Holds (A : Args) (b : Fin 2) (n : ℕ) (S : St) : Prop where
  s1 : ∀ k d, S.s1 (ix2 k d) = ((before n (fun j => key1 A j k * contentR A b j d) : ℝ) : EReal)
  s2 : ∀ k d, S.s2 (ix2 k d) = ((before n (fun j => key2 A b j k * gvR A b j d) : ℝ) : EReal)
  cx : ∀ d, S.cx (ix2 0 d) = before n (fun j => ctxE A b j d)
  gc : S.gc (ix2 0 0) = ((before n (fun j => gateR A b j) : ℝ) : EReal)
  tr : ∀ i j : Fin 512, S.tr (ix2 i j) = (((if j ≤ i then 1 else 0 : ℝ)) : EReal)

variable {A : Args} {b : Fin 2} {n : Fin 4} {B : Blk} {S : St}

theorem xx_at (hB : Fits A b n B) (i : Fin 512) (k : Fin 256) : B.xx (ix2 i k) = A.x b (pos n i) k := by
  unfold Blk.xx
  pointwise [k0_pay7]
  exact hB.h0 i k

theorem pos_at (hB : Fits A b n B) (hA : Good A) (i : Fin 512) (p : Fin 32) :
    B.i1 (ix2 i p) = (((A.pp (pos n i) p).toReal : ℝ) : EReal) := (hB.h1 i p).trans (hA.pp _ _)

theorem kt_at (hB : Fits A b n B) (hA : Good A) (k : Fin 64) (j : Fin 512) : B.kt (ix2 k j) = ((key1 A (pos n j) k : ℝ) : EReal) := by
  unfold Blk.kt
  rw [pay14_at B.i1 j k (pos_at hB hA j)]
  unfold key1 posT
  rfl

theorem cont_at (hB : Fits A b n B) (hA : Good A) (i : Fin 512) (d : Fin 256) :
    B.cont (ix2 i d) = ((contentR A b (pos n i) d : ℝ) : EReal) := by
  refine (pay15_at _ _ _ i d).trans (Eq.trans ?_ (hA.content b (pos n i) d))
  simp only [xx_at hB, hB.h2, hB.h3, contentE]

theorem val_at (hB : Fits A b n B) (hA : Good A) (i : Fin 512) (d : Fin 256) :
    B.val (ix2 i d) = (((valE A b (pos n i) d).toReal : ℝ) : EReal) := by
  refine (pay41_at _ _ _ i d).trans (Eq.trans ?_ (hA.val b (pos n i) d))
  simp only [xx_at hB, hB.h11, hB.h12, valE]

theorem gate_at (hB : Fits A b n B) (i : Fin 512) : B.gate (ix2 i 0) = ((gateR A b (pos n i) : ℝ) : EReal) := by
  refine (pay43_at _ _ _ i).trans ?_
  simp only [pay42_at, xx_at hB, hB.h19, hB.h20, hB.h21, hB.h22, gateR, ghid]

theorem ctx_row (hB : Fits A b n B) (i : Fin 512) (d : Fin 256) :
    lin (fun k => B.xx (ix2 i k)) (fun m k => B.i13 (ix2 m k)) (fun m => B.i14 (ix2 0 m)) d = ctxE A b (pos n i) d := by
  simp only [xx_at hB, hB.h13, hB.h14, ctxE]

theorem ctx_at (hB : Fits A b n B) (hS : Holds A b n.val S) (i : Fin 512) (d : Fin 256) :
    k0_pay44 (F := Ideal) B.xx S.tr B.i13 B.i14 S.cx (ix2 i d) = ctxCum A b (pos n i) d := by
  rw [pay44_at _ _ _ _ _ i d (hS.tr i), hS.cx]
  simp only [ctx_row hB]
  rw [ctxCum, sum_upto, add_comm]

theorem avg_at (hB : Fits A b n B) (hS : Holds A b n.val S) (i : Fin 512) (d : Fin 256) :
    B.avg n.val S (ix2 i d) = ctxAvg A b (pos n i) d := by
  unfold Blk.avg
  rw [pay45_at, ctx_at hB hS]
  rfl

/-- The phases of the key, then those of the storage. -/
def phR (A : Args) (b : Fin 2) (l : Fin 2048) (k : Fin 64) : ℝ :=
  if h : k.val < 32 then keyR A b l ⟨k.val, h⟩ else spR A b l ⟨k.val - 32, by omega⟩

theorem ph_at (hB : Fits A b n B) (hS : Holds A b n.val S) (i : Fin 512) (k : Fin 64) :
    B.ph n.val S (ix2 i k) = ((phR A b (pos n i) k : ℝ) : EReal) := by
  refine (pay50_at _ _ _ _ _ _ _ i k (KR := keyR A b (pos n i)) fun p => ?_).trans ?_
  · rw [pay40_at]
    simp only [xx_at hB, hB.h9, hB.h10, keyR]
  · simp only [xx_at hB, avg_at hB hS, hB.h15, hB.h16, hB.h17, hB.h18]
    rfl

theorem ph2_at (hB : Fits A b n B) (hS : Holds A b n.val S) (i : Fin 512) (k : Fin 64) :
    B.ph2 n.val S (ix2 i k) = ((phR A b (pos n i) k * phR A b (pos n i) k : ℝ) : EReal) := by
  have h := ph_at hB hS i k
  unfold Blk.ph at h
  unfold Blk.ph2 k0_pay51
  pointwise []
  rw [h, ← EReal.coe_mul]

theorem phm_at (hB : Fits A b n B) (hS : Holds A b n.val S) (i : Fin 512) (k : Fin 64) :
    B.phm n.val S (ix2 i k) = ((lit 0xB2B34B08#32 * (phR A b (pos n i) k * phR A b (pos n i) k) : ℝ) : EReal) := by
  have h := ph2_at hB hS i k
  unfold Blk.ph2 at h
  unfold Blk.phm k0_pay52
  pointwise []
  rw [h, ofBits_lit _ (by decide), ← EReal.coe_mul]

theorem read2_at (hB : Fits A b n B) (hS : Holds A b n.val S) (i : Fin 512) (k : Fin 64) :
    k0_pay55 (F := Ideal) (B.ph n.val S) (B.ph2 n.val S) (B.phm n.val S) (ix2 i k) =
      (((if hk : k.val < 32 then cosR (keyR A b (pos n i) ⟨k.val, hk⟩) else sinR (keyR A b (pos n i) ⟨k.val - 32, by omega⟩)) : ℝ) : EReal) := by
  rw [pay55_at _ _ _ i k (ph_at hB hS i) (ph2_at hB hS i) (phm_at hB hS i)]
  have hk := k.isLt
  split
  · rw [phR, dif_pos (by assumption)]
  · rw [phR, dif_pos (by simp only []; omega)]

theorem write2_at (hB : Fits A b n B) (hS : Holds A b n.val S) (i : Fin 512) (k : Fin 64) :
    k0_pay56 (F := Ideal) (B.ph n.val S) (B.ph2 n.val S) (B.phm n.val S) (ix2 i k) = ((key2 A b (pos n i) k : ℝ) : EReal) := by
  rw [pay56_at _ _ _ i k (ph_at hB hS i) (ph2_at hB hS i) (phm_at hB hS i)]
  have hk := k.isLt
  unfold key2
  split
  · rw [phR, dif_neg (by simp only []; omega)]
    congr 4; simp only []; omega
  · rw [phR, dif_neg (by simp only []; omega)]
    congr 4; simp only []; omega

theorem gv_at (hB : Fits A b n B) (hA : Good A) (i : Fin 512) (d : Fin 256) :
    k0_pay57 (F := Ideal) B.val B.gate (ix2 i d) = ((gvR A b (pos n i) d : ℝ) : EReal) := by
  rw [pay57_at, val_at hB hA, gate_at hB, ← EReal.coe_mul]
  rfl

/-- The state after the chunk holds the sums over the chunk's positions as well. -/
theorem next_holds (hB : Fits A b n B) (hA : Good A) (hS : Holds A b n.val S) : Holds A b (n.val + 1) (B.next n.val S) where
  s1 k d := by
    rw [before_succ]
    exact pay39_at _ _ _ k d (kt_at hB hA k) (fun j => cont_at hB hA j d) (hS.s1 k d)
  s2 k d := by
    rw [before_succ]
    exact pay59_at _ _ _ k d (fun j => write2_at hB hS j k) (fun j => gv_at hB hA j d) (hS.s2 k d)
  cx d := by
    refine (pay47_at _ _ _ _ _ d).trans ?_
    rw [pay44_at _ _ _ _ _ _ d (hS.tr _), hS.cx, before_succ, add_comm]
    simp only [ctx_row hB]
    congr 1
  gc := by
    refine (pay49_at _ _ _).trans ?_
    rw [pay48_at _ _ _ _ (hS.tr _) (gate_at hB) hS.gc, before_succ]
    congr 2
  tr := hS.tr

/-- The state a row begins with holds the empty sums. -/
theorem zero_holds (A : Args) (b : Fin 2) : Holds A b 0 St.zero where
  s1 k d := by
    rw [before_zero]
    show k0_pay2 (F := Ideal) (ix2 k d) = _
    pointwise [k0_pay2]
    exact EReal.coe_zero.symm
  s2 k d := by
    rw [before_zero]
    show k0_pay3 (F := Ideal) (ix2 k d) = _
    pointwise [k0_pay3]
    exact EReal.coe_zero.symm
  cx d := by
    rw [before_zero]
    show k0_pay4 (F := Ideal) (ix2 0 d) = _
    pointwise [k0_pay4]
  gc := by
    rw [before_zero]
    show k0_pay5 (F := Ideal) (ix2 0 0) = _
    pointwise [k0_pay5]
    simp
  tr := pay6_at

/-! ## The heads -/

theorem fe_at (hB : Fits A b n B) (i : Fin 512) (f : Fin 288) : B.fe (ix2 i f) = feat A b (pos n i) f := by
  unfold Blk.fe
  rw [pay16_at]
  unfold feat
  split
  · exact xx_at hB i _
  · pointwise [k0_pay8]
    exact hB.h1 i _

theorem hid_at (hB : Fits A b n B) (h : Fin 4) (i : Fin 512) (g : Fin 128) {q r} :
    hidB B.fe (cutW B.i4 ![h.val, 0, 0] q) (cutB B.i5 ![h.val, 0] r) i g = hid A b (pos n i) h g := by
  unfold hidB hid
  simp only [cutW_at, cutB_at, fe_at hB, hB.h4, hB.h5]

theorem off_at (hB : Fits A b n B) (h : Fin 4) (i : Fin 512) (p : Fin 32) {q r s t} :
    (∑ k, hidB B.fe (cutW B.i4 ![h.val, 0, 0] q) (cutB B.i5 ![h.val, 0] r) i k * cutV B.i6 ![h.val, 0, 0] s (ix3 0 p k)) +
      cutC B.i7 ![h.val, 0] t (ix2 0 p) = off A b (pos n i) h ⟨p.val, by omega⟩ := by
  unfold off lin
  simp only [hid_at hB h, cutV_at, cutC_at, hB.h6, hB.h7]

theorem wid_at (hB : Fits A b n B) (h : Fin 4) (i : Fin 512) {q r s t} :
    (∑ k, hidB B.fe (cutW B.i4 ![h.val, 0, 0] q) (cutB B.i5 ![h.val, 0] r) i k * cutR B.i6 ![h.val, 32, 0] s (ix3 0 0 k)) +
      cutE B.i8 ![h.val, 32] t = wpre A b (pos n i) h := by
  unfold wpre off lin
  simp only [hid_at hB h, cutR_at, cutE_at, hB.h6, hB.h8]
  rfl

theorem offs_at (hB : Fits A b n B) (i : Fin 512) (h : Fin 4) (p : Fin 32) (q : Fin 128) (hq : q.val = 32 * h.val + p.val) :
    B.offs (ix2 i q) = ((center A b (pos n i) h p : ℝ) : EReal) := by
  unfold Blk.offs
  refine pay28_at _ _ _ _ _ _ _ _ i (fun h p => off A b (pos n i) h ⟨p.val, by omega⟩) ?_ ?_ ?_ ?_ h p q hq
  · intro p
    unfold Blk.o0
    rw [pay19_at]
    simp only [pay17_at]
    exact off_at hB 0 i p
  · intro p
    unfold Blk.o1
    rw [pay22_at]
    exact off_at hB 1 i p
  · intro p
    unfold Blk.o2
    rw [pay25_at]
    exact off_at hB 2 i p
  · intro p
    exact off_at hB 3 i p

theorem gains_at (hB : Fits A b n B) (i : Fin 512) (h : Fin 4) :
    B.gains (ix2 i h) = ((524288 / 11863283 * gainR (wpre A b (pos n i) h) : ℝ) : EReal) := by
  unfold Blk.gains
  refine pay30_at _ i h ?_
  refine pay29_at _ _ _ _ _ _ _ _ _ i (wpre A b (pos n i)) ?_ ?_ ?_ ?_ h
  · unfold Blk.w0
    rw [pay20_at]
    simp only [pay17_at]
    exact wid_at hB 0 i
  · unfold Blk.w1
    rw [pay23_at]
    simp only [pay21_at]
    exact wid_at hB 1 i
  · unfold Blk.w2
    rw [pay26_at]
    exact wid_at hB 2 i
  · exact wid_at hB 3 i

theorem qeff_at (hB : Fits A b n B) (hA : Good A) (i : Fin 512) (k : Fin 64) :
    B.qeff (ix2 i k) =
      ((qeffR (fun p => cosR (posT A (pos n i) p)) (fun p => sinR (posT A (pos n i) p))
        (fun h => 524288 / 11863283 * gainR (wpre A b (pos n i) h)) (fun h p => center A b (pos n i) h p) k : ℝ) : EReal) := by
  unfold Blk.qeff
  refine pay37_at _ _ _ _ i k (fun p => pay11_at _ i p (pos_at hB hA i p)) (fun p => pay13_at _ i p (pos_at hB hA i p))
    (fun h p q hq => offs_at hB i h p q hq) fun h p q hq => ?_
  refine (pay34_at _ i q).trans ?_
  have hp := p.isLt
  rw [show (⟨q.val / 32, by omega⟩ : Fin 4) = h from Fin.ext (by simp only []; omega)]
  exact gains_at hB i h

/-- A row of the first reading. -/
theorem multi_at (hB : Fits A b n B) (hA : Good A) (hS : Holds A b n.val S) (i : Fin 512) (d : Fin 256) :
    k0_pay38 (F := Ideal) S.tr B.kt B.cont B.qeff (constant S512x512 .f32 0x00000000#32) S.s1 (ix2 i d) =
      ((multiR A b (pos n i) d : ℝ) : EReal) := by
  rw [pay38_at _ _ _ _ _ i d (hS.tr i) (qeff_at hB hA i) (kt_at hB hA) (fun j => cont_at hB hA j d) (fun k => hS.s1 k d)]
  congr 1
  simp only [← upto_pos n i fun j => key1 A j _ * contentR A b j d]
  rw [sum64, ← heads_sum]
  congr 1

/-- The second reading, over its divisor. -/
theorem kv_at (A : Args) (b : Fin 2) (n : Fin 4) (i : Fin 512) (d : Fin 256) :
    combR A b (pos n i) d = multiR A b (pos n i) d +
      ((∑ k : Fin 64, (if hk : k.val < 32 then cosR (keyR A b (pos n i) ⟨k.val, hk⟩) else sinR (keyR A b (pos n i) ⟨k.val - 32, by omega⟩)) *
          (∑ j : Fin 512, if j ≤ i then key2 A b (pos n j) k * gvR A b (pos n j) d else 0)) +
        ∑ k : Fin 64, (if hk : k.val < 32 then cosR (keyR A b (pos n i) ⟨k.val, hk⟩) else sinR (keyR A b (pos n i) ⟨k.val - 32, by omega⟩)) *
          before n.val (fun j => key2 A b j k * gvR A b j d)) /
      (Real.sqrt (max (before n.val (fun j => gateR A b j) + ∑ j : Fin 512, if j ≤ i then gateR A b (pos n j) else 0) 1) * lit 0x40B504F3#32) := by
  rw [← Finset.sum_add_distrib]
  simp only [← mul_add]
  simp only [add_comm (∑ j : Fin 512, if j ≤ i then key2 A b (pos n j) _ * gvR A b (pos n j) d else 0),
    ← upto_pos n i fun j => key2 A b j _ * gvR A b j d]
  have h1 : (∑ p : Fin 32, cosR (keyR A b (pos n i) p) * kvC A b (pos n i) p d) +
      (∑ p : Fin 32, sinR (keyR A b (pos n i) p) * kvS A b (pos n i) p d) =
      ∑ k : Fin 64, (if hk : k.val < 32 then cosR (keyR A b (pos n i) ⟨k.val, hk⟩) else sinR (keyR A b (pos n i) ⟨k.val - 32, by omega⟩)) *
        upto (pos n i) (fun j => key2 A b j k * gvR A b j d) := by
    rw [sum64]
    refine congrArg₂ (· + ·) (Finset.sum_congr rfl fun p _ => ?_) (Finset.sum_congr rfl fun p _ => ?_)
    · have hp := p.isLt
      simp only [key2, dif_pos hp, kvC]
    · have hp : ¬ 32 + p.val < 32 := by omega
      simp only [key2, dif_neg hp, kvS, Nat.add_sub_cancel_left]
  rw [← h1, ← upto_pos n i fun j => gateR A b j, combR, ← kv_sum]
  rfl

/-- A row of the result. -/
theorem out_at (hB : Fits A b n B) (hA : Good A) (hS : Holds A b n.val S) (i : Fin 512) (d : Fin 256) :
    B.out n.val S (ix3 0 i d) = outE A b (pos n i) d := by
  unfold Blk.out
  rw [pay1_at, xx_at hB, hB.h26]
  unfold outE
  congr 2
  refine Finset.sum_congr rfl fun k _ => ?_
  rw [hB.h25]
  congr 1
  rw [pay60_at _ _ _ _ _ _ _ i k (fun d => multi_at hB hA hS i d) (pay48_at _ _ _ i (hS.tr i) (gate_at hB) hS.gc) (read2_at hB hS i)
    (fun d => pay58_at _ _ _ _ _ _ i d (hS.tr i) (read2_at hB hS i) (write2_at hB hS) (fun j => gv_at hB hA j d)) hS.s2 (kv_at A b n i),
    hB.h23, hB.h24]
  rfl

end Cert.Phasor

end
-- ==== Proof.Arr.lean ====
/- The twenty-six arrays that both programs take, and their readings as functions of indices. -/
module

public import proofs.«01_k».proof.Proof.Spec
public import Idealize.ShloMosaic.Lib.Pointwise

@[expose] public section

noncomputable section

namespace Cert.Phasor

open Idealize.ShloMosaic
open scoped BigOperators

/-- The arrays. -/
structure Arrs where
  x0 : FVec Ideal ⟨3, ![2, 2048, 256]⟩ .f32
  x1 : FVec Ideal ⟨2, ![16384, 32]⟩ .f32
  x2 : FVec Ideal ⟨2, ![256, 256]⟩ .f32
  x3 : FVec Ideal ⟨1, ![256]⟩ .f32
  x4 : FVec Ideal ⟨3, ![4, 128, 288]⟩ .f32
  x5 : FVec Ideal ⟨2, ![4, 128]⟩ .f32
  x6 : FVec Ideal ⟨3, ![4, 33, 128]⟩ .f32
  x7 : FVec Ideal ⟨2, ![4, 33]⟩ .f32
  x8 : FVec Ideal ⟨2, ![32, 256]⟩ .f32
  x9 : FVec Ideal ⟨1, ![32]⟩ .f32
  x10 : FVec Ideal ⟨2, ![256, 256]⟩ .f32
  x11 : FVec Ideal ⟨1, ![256]⟩ .f32
  x12 : FVec Ideal ⟨2, ![256, 256]⟩ .f32
  x13 : FVec Ideal ⟨1, ![256]⟩ .f32
  x14 : FVec Ideal ⟨2, ![256, 512]⟩ .f32
  x15 : FVec Ideal ⟨1, ![256]⟩ .f32
  x16 : FVec Ideal ⟨2, ![32, 256]⟩ .f32
  x17 : FVec Ideal ⟨1, ![32]⟩ .f32
  x18 : FVec Ideal ⟨2, ![128, 256]⟩ .f32
  x19 : FVec Ideal ⟨1, ![128]⟩ .f32
  x20 : FVec Ideal ⟨2, ![1, 128]⟩ .f32
  x21 : FVec Ideal ⟨1, ![1]⟩ .f32
  x22 : FVec Ideal ⟨1, ![256]⟩ .f32
  x23 : FVec Ideal ⟨1, ![256]⟩ .f32
  x24 : FVec Ideal ⟨2, ![256, 256]⟩ .f32
  x25 : FVec Ideal ⟨1, ![256]⟩ .f32

/-- The arrays read as functions; of the phases, the first 2048 rows. -/
def Arrs.args (X : Arrs) : Args where
  x b l d := X.x0 (ix3 b l d)
  pp l p := X.x1 (ix2 (Fin.castLE (by decide) l) p)
  wc d k := X.x2 (ix2 d k)
  bc d := X.x3 (ix1 d)
  hw1 h g f := X.x4 (ix3 h g f)
  hb1 h g := X.x5 (ix2 h g)
  hw2 h p g := X.x6 (ix3 h p g)
  hb2 h p := X.x7 (ix2 h p)
  wk p k := X.x8 (ix2 p k)
  bk p := X.x9 (ix1 p)
  wv d k := X.x10 (ix2 d k)
  bv d := X.x11 (ix1 d)
  wx d k := X.x12 (ix2 d k)
  bx d := X.x13 (ix1 d)
  kw1 d f := X.x14 (ix2 d f)
  kb1 d := X.x15 (ix1 d)
  kw2 p g := X.x16 (ix2 p g)
  kb2 p := X.x17 (ix1 p)
  gw1 g k := X.x18 (ix2 g k)
  gb1 g := X.x19 (ix1 g)
  gw2 g := X.x20 (ix2 0 g)
  gb2 := X.x21 (ix1 0)
  lg d := X.x22 (ix1 d)
  lb d := X.x23 (ix1 d)
  wo d k := X.x24 (ix2 d k)
  bo d := X.x25 (ix1 d)

end Cert.Phasor

end
-- ==== Proof.Read.lean ====
/- The input blocks of a grid point, read as rows of the arguments. -/
module

public import proofs.«01_k».proof.Proof.StepDefs
public import proofs.«01_k».proof.Proof.Sem
public import proofs.«01_k».proof.Proof.Arr
public import Idealize.ShloMosaic.Lib.Claim

@[expose] public section

set_option maxRecDepth 16384

noncomputable section

namespace Cert.Phasor

open Idealize.ShloMosaic Idealize.ShloMosaic.TcCoe Idealize.SL.Sem Cert.KernelIdeal Cert.KernelIdeal.Gen

variable (m : (ℓ : Loc nD τ sig) → Buf (Elt Ideal) ℓ)

/-- The arguments in device `c`'s memory. -/
def arrs (c : Dev nD) : Arrs where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)
  x23 := m ((c : Thread nD τ).loc main_arg23)
  x24 := m ((c : Thread nD τ).loc main_arg24)
  x25 := m ((c : Thread nD τ).loc main_arg25)

/-- The blocks' places in the arrays. -/
theorem idx2 : ∀ t : Fin cfg0.N, win0_2.index t = ![0, 0] ∧ win0_3.index t = ![0, 0] ∧ win0_4.index t = ![0, 0, 0] ∧
    win0_5.index t = ![0, 0] ∧ win0_6.index t = ![0, 0, 0] ∧ win0_7.index t = ![0, 0] ∧ win0_8.index t = ![0, 0] ∧
    win0_9.index t = ![0, 0] ∧ win0_10.index t = ![0, 0] ∧ win0_11.index t = ![0, 0] ∧ win0_12.index t = ![0, 0] ∧
    win0_13.index t = ![0, 0] ∧ win0_14.index t = ![0, 0] ∧ win0_15.index t = ![0, 0] ∧ win0_16.index t = ![0, 0] ∧
    win0_17.index t = ![0, 0] ∧ win0_18.index t = ![0, 0] ∧ win0_19.index t = ![0, 0] ∧ win0_20.index t = ![0, 0] ∧
    win0_21.index t = ![0, 0] ∧ win0_22.index t = ![0, 0] ∧ win0_23.index t = ![0, 0] ∧ win0_24.index t = ![0, 0] ∧
    win0_25.index t = ![0, 0] ∧ win0_26.index t = ![0, 0] :=
  (by decide +kernel : ∀ t : Fin grid0.N, _)

/-- The places of the rows, the phases and the result, the chunk's number, and the number of grid points. -/
theorem idx0 : ∀ t : Fin cfg0.N, win0_0.index t = ![t.val / 4, t.val % 4, 0] ∧ win0_1.index t = ![t.val % 4, 0] ∧
    win0_27.index t = ![t.val / 4, t.val % 4, 0] ∧ (grid0.coords t 1).val = t.val % 4 ∧ t.val < 8 :=
  (by decide +kernel : ∀ t : Fin grid0.N, _)

set_option maxHeartbeats 2000000 in
/-- The blocks of grid point `t = 4 b + n` hold the rows of batch `b` and chunk `n`. -/
theorem fits (c : Dev nD) (t : Fin cfg0.N) (b : Fin 2) (n : Fin 4) (ht : t.val = 4 * b.val + n.val) :
    Fits (arrs m c).args b n (blkAt m c t) := by
  obtain ⟨e0, e1, -⟩ := idx0 t
  rw [show t.val / 4 = b.val by omega, show t.val % 4 = n.val by omega] at e0
  rw [show t.val % 4 = n.val by omega] at e1
  constructor
  all_goals intros
  all_goals simp only [Arrs.args, arrs, blkAt]
  all_goals first
    | blk_ext [iblk, V, e0, e1, idx2 t, pos, Fin.val_castLE]
    | (blk_simp [iblk]; entry_read; pointwise; blk_ext [e0, e1, idx2 t, pos, Fin.val_castLE])

end Cert.Phasor

end
-- ==== Proof.Final.lean ====
/- The kernel's result array. -/
module

public import proofs.«01_k».proof.Proof.Step
public import proofs.«01_k».proof.Proof.OutA
public import proofs.«01_k».proof.Proof.OutB
public import proofs.«01_k».proof.Proof.Read

@[expose] public section

set_option maxRecDepth 16384

noncomputable section

namespace Cert.Phasor

open Idealize.ShloMosaic Idealize.ShloMosaic.TcCoe Idealize.SL.Sem Cert.KernelIdeal Cert.KernelIdeal.Gen

variable (m : (ℓ : Loc nD τ sig) → Buf (Elt Ideal) ℓ)

/-- After chunk `k` of batch `b` the carried arrays hold the sums over the positions of the chunks up to it. -/
theorem holds (c : Dev nD) (hA : Good (arrs m c).args) (b : Fin 2) :
    ∀ (k : ℕ) (hk : k < 4) (h : 4 * b.val + k < cfg0.N), Holds (arrs m c).args b (k + 1) (stAt m c (4 * b.val + k) h)
  | 0, hk, h => by
    have e := (idx0 ⟨4 * b.val + 0, h⟩).2.2.2.1
    rw [stepA m c ⟨4 * b.val + 0, h⟩ (by simp only; omega), e, show (4 * b.val + 0) % 4 = (0 : Fin 4).val by simp]
    exact next_holds (fits m c _ b 0 rfl) hA (zero_holds _ _)
  | k + 1, hk, h => by
    have e := (idx0 ⟨4 * b.val + (k + 1), h⟩).2.2.2.1
    rw [stepB m c ⟨4 * b.val + (k + 1), h⟩ (by simp only; omega), e,
      show (4 * b.val + (k + 1)) % 4 = (⟨k + 1, hk⟩ : Fin 4).val by simp only; omega]
    exact next_holds (n := ⟨k + 1, hk⟩) (fits m c _ b ⟨k + 1, hk⟩ rfl) hA (holds c hA b k (by omega) (Nat.lt_of_succ_lt h))

/-- The block that chunk `k` of batch `b` writes. -/
theorem block_at (c : Dev nD) (hA : Good (arrs m c).args) (t : Fin cfg0.N) (b : Fin 2) (n : Fin 4) (ht : t.val = 4 * b.val + n.val)
    (i : Fin 512) (d : Fin 256) :
    (outsAt0 (F := Ideal) m c t.val t.isLt).1 (ix3 0 i d) = outE (arrs m c).args b (pos n i) d := by
  have e := (idx0 t).2.2.2.1
  by_cases h : t.val % 4 = 0
  · obtain rfl : n = 0 := Fin.ext (by simp only [Fin.val_zero]; omega)
    rw [stepA_out m c t h, e, h]
    exact out_at (n := 0) (fits m c t b 0 ht) hA (zero_holds _ _) i d
  · rw [stepB_out m c t h, e, show t.val % 4 = n.val by omega]
    refine out_at (fits m c t b n ht) hA ?_ i d
    have hk := holds m c hA b (n.val - 1) (by omega) (by have := t.isLt; omega)
    have e1 : n.val - 1 + 1 = n.val := by omega
    have e2 : 4 * b.val + (n.val - 1) = t.val - 1 := by omega
    rw [e1] at hk
    simp only [e2] at hk
    exact hk

/-- The kernel's result array. -/
theorem final (c : Dev nD) (hA : Good (arrs m c).args) :
    (dats m 0 c).arrAt 27 cfg0.N = fun j => outE (arrs m c).args (j 0) (j 1) (j 2) := by
  refine (dats m 0 c).arrAt_eq_of_covers 27 _ (by decide +kernel) fun t hf y => ?_
  blk_simp
  rw [after0_27]
  obtain ⟨-, -, e, -, h8⟩ := idx0 t
  have key := block_at m c hA t ⟨t.val / 4, by omega⟩ ⟨t.val % 4, by omega⟩ (by simp only; omega) (y 1) (y 2)
  have hy : (ix3 0 (y 1) (y 2) : S1x512x256.Idx) = y := by
    refine funext fun a => ?_
    fin_cases a
    · exact Fin.ext (by have := (y 0).isLt; simp at this ⊢)
    · rfl
    · rfl
  rw [hy] at key
  have hz : (win0_27.blk t).view.emb y = ix3 ⟨t.val / 4, by omega⟩ (pos ⟨t.val % 4, by omega⟩ (y 1)) (y 2) := by
    blk_ext [e, pos]
  rw [key, hz]
  rfl

end Cert.Phasor

end
-- ==== Proof.Pre.lean ====
/- The precondition: the rows, the phases and the weights of content and value are finite. -/
module

public import proofs.«01_k».proof.Pre_finite
public import proofs.«01_k».proof.Proof.Arr
public import Idealize.ShloMosaic.Lib.ReduceAll
public import Idealize.ShloMosaic.Lib.Pointwise

@[expose] public section

set_option maxRecDepth 16384

noncomputable section

namespace Cert.Phasor

open Idealize.ShloMosaic
open scoped BigOperators

/-- The side conditions the precondition's operations take. -/
theorem preFacts : Cert.Pre_finite.Facts where
  bcast_S_S2x2048x256 := by decide
  reducesTo_S2x2048x256_S_d0_1_2 := by decide
  h_S_ := by decide
  bcast_S_S16384x32 := by decide
  reducesTo_S16384x32_S_d0_1 := by decide
  bcast_S_S256x256 := by decide
  reducesTo_S256x256_S_d0_1 := by decide
  bcast_S_S256 := by decide
  reducesTo_S256_S_d0 := by decide

/-- A number whose absolute value is below another number is real. -/
theorem real_of_abs_lt (a b : EReal) (h : Ideal.cmp .olt (max a (-a)) b = 1#1) : a = ((a.toReal : ℝ) : EReal) := by
  have h' : max a (-a) < ⊤ := by
    refine lt_of_lt_of_le ?_ (le_top (a := b))
    by_contra hn
    simp [Ideal.cmp, hn] at h
  refine (EReal.coe_toReal ?_ ?_).symm
  · rintro rfl; simp at h'
  · rintro rfl; simp at h'

/-- A sum of products of reals and a real is real. -/
theorem lin_real {n k : ℕ} (v : Fin n → EReal) (w : Fin k → Fin n → EReal) (b : Fin k → EReal) (j : Fin k)
    (hv : ∀ i, v i = (((v i).toReal : ℝ) : EReal)) (hw : ∀ i, w j i = (((w j i).toReal : ℝ) : EReal))
    (hb : b j = (((b j).toReal : ℝ) : EReal)) : lin v w b j = (((lin v w b j).toReal : ℝ) : EReal) := by
  have h : lin v w b j = (((∑ i, (v i).toReal * (w j i).toReal) + (b j).toReal : ℝ) : EReal) := by
    unfold lin
    rw [EReal.coe_add, coe_sum, ← hb]
    congr 1
    refine Finset.sum_congr rfl fun i _ => ?_
    rw [EReal.coe_mul, ← hv i, ← hw i]
  rw [h, EReal.toReal_coe]

/-- An array without axes has one index. -/
instance : Subsingleton Cert.Pre_finite.S_.Idx := ⟨fun a b => funext fun i => i.elim0⟩

/-- The precondition gives what the spec takes. -/
theorem good_of_pre (X : Arrs) [Cert.Pre_finite.Facts]
    (h : Cert.Pre_finite.fn (F := Ideal) X.x0 X.x1 X.x2 X.x3 X.x4 X.x5 X.x6 X.x7 X.x8 X.x9 X.x10 X.x11 X.x12 X.x13 X.x14 X.x15 X.x16 X.x17
      X.x18 X.x19 X.x20 X.x21 X.x22 X.x23 X.x24 X.x25 = fun _ => 1#1) : Good X.args := by
  have h0 := congrFun h (Shape.Idx.first (by decide))
  dsimp only [Cert.Pre_finite.fn, Cert.Pre_finite.fn_part1] at h0
  obtain ⟨h0, r11⟩ := IntOp.andi_eq_one.1 h0
  obtain ⟨h0, r10⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  have f0 := fun i => real_of_abs_lt _ _ (Host.reduce_andi_all _ _ _ _ _ r0 i)
  have f1 := fun i => real_of_abs_lt _ _ (Host.reduce_andi_all _ _ _ _ _ r1 i)
  have f2 := fun i => real_of_abs_lt _ _ (Host.reduce_andi_all _ _ _ _ _ r2 i)
  have f3 := fun i => real_of_abs_lt _ _ (Host.reduce_andi_all _ _ _ _ _ r3 i)
  have f10 := fun i => real_of_abs_lt _ _ (Host.reduce_andi_all _ _ _ _ _ r10 i)
  have f11 := fun i => real_of_abs_lt _ _ (Host.reduce_andi_all _ _ _ _ _ r11 i)
  exact ⟨fun l p => f1 _, fun b l d => lin_real _ _ _ _ (fun _ => f0 _) (fun _ => f2 _) (f3 _),
    fun b l d => lin_real _ _ _ _ (fun _ => f0 _) (fun _ => f10 _) (f11 _)⟩

end Cert.Phasor

end
-- ==== Proof.Cumsum.lean ====
/- The reference's running sums along the positions, read at an index. -/
module

public import Idealize.ShloMosaic.Lib.Pointwise
public import Idealize.ShloMosaic.PureOps.Ideal.Laws

@[expose] public section

noncomputable section

namespace Cert.Phasor

open Idealize.ShloMosaic
open scoped BigOperators

/-- A left fold that adds is the initial value plus the sum. -/
theorem foldl_add_eq {n : ℕ} (f : Fin n → EReal) (v : EReal) :
    (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; simp [ih, add_assoc]
  rw [h, ← List.ofFn_eq_map, List.sum_ofFn]

/-- The window that ends at `l`, counted from its far end, holds the positions up to `l`. -/
theorem sum_window_upto {N : ℕ} (l : Fin N) (g : Fin N → EReal) (N1 : ℕ) (hN : N1 + 1 = N) :
    (∑ k : Fin N, if h : N1 ≤ l.val + k.val ∧ l.val + k.val - N1 < N then g ⟨l.val + k.val - N1, h.2⟩ else 0) =
      ∑ j : Fin N, if j ≤ l then g j else 0 := by
  rw [← Finset.sum_filter]
  rw [show (∑ k : Fin N, if h : N1 ≤ l.val + k.val ∧ l.val + k.val - N1 < N then g ⟨l.val + k.val - N1, h.2⟩ else 0) =
      ∑ k ∈ Finset.univ.filter (fun k : Fin N => N1 ≤ l.val + k.val), g ⟨(l.val + k.val - N1) % N, Nat.mod_lt _ (by omega)⟩ by
    rw [Finset.sum_filter]
    refine Finset.sum_congr rfl fun k _ => ?_
    by_cases hk : N1 ≤ l.val + k.val
    · have hlt : l.val + k.val - N1 < N := by omega
      rw [dif_pos ⟨hk, hlt⟩, if_pos hk]
      congr 1
      exact Fin.ext (Nat.mod_eq_of_lt hlt).symm
    · rw [dif_neg fun h => hk h.1, if_neg hk]]
  refine Finset.sum_bij' (fun k _ => (⟨(l.val + k.val - N1) % N, Nat.mod_lt _ (by omega)⟩ : Fin N))
    (fun j _ => (⟨(j.val + N1 - l.val) % N, Nat.mod_lt _ (by omega)⟩ : Fin N)) ?_ ?_ ?_ ?_ ?_
  · intro k hk
    simp only [Finset.mem_filter, Finset.mem_univ, true_and] at hk ⊢
    rw [Fin.le_def]
    show (l.val + k.val - N1) % N ≤ l.val
    rw [Nat.mod_eq_of_lt (by omega)]; omega
  · intro j hj
    simp only [Finset.mem_filter, Finset.mem_univ, true_and, Fin.le_def] at hj ⊢
    rw [Nat.mod_eq_of_lt (by omega)]; omega
  · intro k hk
    simp only [Finset.mem_filter, Finset.mem_univ, true_and] at hk
    refine Fin.ext ?_
    show ((l.val + k.val - N1) % N + N1 - l.val) % N = k.val
    rw [Nat.mod_eq_of_lt (a := l.val + k.val - N1) (by omega), Nat.mod_eq_of_lt (by omega)]; omega
  · intro j hj
    simp only [Finset.mem_filter, Finset.mem_univ, true_and, Fin.le_def] at hj
    refine Fin.ext ?_
    show (l.val + (j.val + N1 - l.val) % N - N1) % N = j.val
    rw [Nat.mod_eq_of_lt (a := j.val + N1 - l.val) (by omega), Nat.mod_eq_of_lt (by omega)]; omega
  · intro k _; rfl

/-- A window that is one long on every axis but the second: its sum is over that axis. -/
theorem cumsum3 {A N C N1 : ℕ} (hN : N1 + 1 = N) (x : FVec Ideal ⟨3, ![A, N, C]⟩ .f32) {u : Shape} (init : u.Idx → Ideal .f32)
    (h : (⟨3, ![A, N, C]⟩ : Shape).ReduceWindows (![1, N, 1] : Fin 3 → ℕ) ![1, 1, 1] ![0, N1, 0] ![0, 0, 0] ⟨3, ![A, N, C]⟩)
    (hu : 0 < u.numel) (h0 : init (Shape.Idx.first hu) = (0 : EReal)) (a : Fin A) (l : Fin N) (c : Fin C) :
    Host.reduceWindowAdd (F := Ideal) ![1, N, 1] ![1, 1, 1] ![0, N1, 0] ![0, 0, 0] x init h hu (ix3 a l c) =
      (∑ j : Fin N, if j ≤ l then x (ix3 a j c) else 0 : EReal) := by
  unfold Host.reduceWindowAdd
  rw [h0, Ideal.hostReduceWindowAdd_def]
  unfold Ideal.hostReduceWindowAdd Host.reduceWindow
  refine (foldl_add_eq _ _).trans ?_
  rw [zero_add, ← sum_window_upto l (fun j => x (ix3 a j c)) N1 hN]
  let G : (⟨3, ![1, N, 1]⟩ : Shape).Idx → EReal := fun w =>
    if hin : ∀ b : Fin 3, (![0, N1, 0] : Fin 3 → ℕ) b ≤ (ix3 a l c b).val * (![1, 1, 1] : Fin 3 → ℕ) b + (w b).val ∧
        (ix3 a l c b).val * (![1, 1, 1] : Fin 3 → ℕ) b + (w b).val - (![0, N1, 0] : Fin 3 → ℕ) b < (![A, N, C] : Fin 3 → ℕ) b
    then x (fun b => ⟨(ix3 a l c b).val * (![1, 1, 1] : Fin 3 → ℕ) b + (w b).val - (![0, N1, 0] : Fin 3 → ℕ) b, (hin b).2⟩)
    else 0
  refine (Finset.sum_congr rfl fun k _ => (?_ : _ = G ((⟨3, ![1, N, 1]⟩ : Shape).rowMajor.symm k))).trans
    ((Equiv.sum_comp (⟨3, ![1, N, 1]⟩ : Shape).rowMajor.symm G).trans ?_)
  · exact dite_congr rfl (fun _ => rfl) fun _ => rfl
  rw [sum_idx3, Fin.sum_univ_one]
  refine Finset.sum_congr rfl fun k _ => ?_
  rw [Fin.sum_univ_one]
  have ha := a.isLt
  have hc := c.isLt
  by_cases hk : N1 ≤ l.val + k.val ∧ l.val + k.val - N1 < N
  · rw [dif_pos hk]
    refine (dif_pos ?_).trans (congrArg x (funext fun b => Fin.ext ?_))
    · intro b
      match b with
      | ⟨0, _⟩ => show 0 ≤ a.val * 1 + 0 ∧ a.val * 1 + 0 - 0 < A; omega
      | ⟨1, _⟩ => show N1 ≤ l.val * 1 + k.val ∧ l.val * 1 + k.val - N1 < N; omega
      | ⟨2, _⟩ => show 0 ≤ c.val * 1 + 0 ∧ c.val * 1 + 0 - 0 < C; omega
    · match b with
      | ⟨0, _⟩ => show a.val * 1 + 0 - 0 = a.val; omega
      | ⟨1, _⟩ => show l.val * 1 + k.val - N1 = l.val + k.val - N1; omega
      | ⟨2, _⟩ => show c.val * 1 + 0 - 0 = c.val; omega
  · rw [dif_neg hk]
    refine dif_neg fun hin => hk ?_
    have h1 : N1 ≤ l.val * 1 + k.val ∧ l.val * 1 + k.val - N1 < N := hin 1
    omega

/-- The same with four axes. -/
theorem cumsum4 {A N C D N1 : ℕ} (hN : N1 + 1 = N) (x : FVec Ideal ⟨4, ![A, N, C, D]⟩ .f32) {u : Shape} (init : u.Idx → Ideal .f32)
    (h : (⟨4, ![A, N, C, D]⟩ : Shape).ReduceWindows (![1, N, 1, 1] : Fin 4 → ℕ) ![1, 1, 1, 1] ![0, N1, 0, 0] ![0, 0, 0, 0]
      ⟨4, ![A, N, C, D]⟩)
    (hu : 0 < u.numel) (h0 : init (Shape.Idx.first hu) = (0 : EReal)) (a : Fin A) (l : Fin N) (c : Fin C) (d : Fin D) :
    Host.reduceWindowAdd (F := Ideal) ![1, N, 1, 1] ![1, 1, 1, 1] ![0, N1, 0, 0] ![0, 0, 0, 0] x init h hu (ix4 a l c d) =
      (∑ j : Fin N, if j ≤ l then x (ix4 a j c d) else 0 : EReal) := by
  unfold Host.reduceWindowAdd
  rw [h0, Ideal.hostReduceWindowAdd_def]
  unfold Ideal.hostReduceWindowAdd Host.reduceWindow
  refine (foldl_add_eq _ _).trans ?_
  rw [zero_add, ← sum_window_upto l (fun j => x (ix4 a j c d)) N1 hN]
  let G : (⟨4, ![1, N, 1, 1]⟩ : Shape).Idx → EReal := fun w =>
    if hin : ∀ b : Fin 4, (![0, N1, 0, 0] : Fin 4 → ℕ) b ≤ (ix4 a l c d b).val * (![1, 1, 1, 1] : Fin 4 → ℕ) b + (w b).val ∧
        (ix4 a l c d b).val * (![1, 1, 1, 1] : Fin 4 → ℕ) b + (w b).val - (![0, N1, 0, 0] : Fin 4 → ℕ) b <
          (![A, N, C, D] : Fin 4 → ℕ) b
    then x (fun b => ⟨(ix4 a l c d b).val * (![1, 1, 1, 1] : Fin 4 → ℕ) b + (w b).val - (![0, N1, 0, 0] : Fin 4 → ℕ) b, (hin b).2⟩)
    else 0
  refine (Finset.sum_congr rfl fun k _ => (?_ : _ = G ((⟨4, ![1, N, 1, 1]⟩ : Shape).rowMajor.symm k))).trans
    ((Equiv.sum_comp (⟨4, ![1, N, 1, 1]⟩ : Shape).rowMajor.symm G).trans ?_)
  · exact dite_congr rfl (fun _ => rfl) fun _ => rfl
  rw [sum_idx4, Fin.sum_univ_one]
  refine Finset.sum_congr rfl fun k _ => ?_
  rw [Fin.sum_univ_one, Fin.sum_univ_one]
  have ha := a.isLt
  have hc := c.isLt
  have hd := d.isLt
  by_cases hk : N1 ≤ l.val + k.val ∧ l.val + k.val - N1 < N
  · rw [dif_pos hk]
    refine (dif_pos ?_).trans (congrArg x (funext fun b => Fin.ext ?_))
    · intro b
      match b with
      | ⟨0, _⟩ => show 0 ≤ a.val * 1 + 0 ∧ a.val * 1 + 0 - 0 < A; omega
      | ⟨1, _⟩ => show N1 ≤ l.val * 1 + k.val ∧ l.val * 1 + k.val - N1 < N; omega
      | ⟨2, _⟩ => show 0 ≤ c.val * 1 + 0 ∧ c.val * 1 + 0 - 0 < C; omega
      | ⟨3, _⟩ => show 0 ≤ d.val * 1 + 0 ∧ d.val * 1 + 0 - 0 < D; omega
    · match b with
      | ⟨0, _⟩ => show a.val * 1 + 0 - 0 = a.val; omega
      | ⟨1, _⟩ => show l.val * 1 + k.val - N1 = l.val + k.val - N1; omega
      | ⟨2, _⟩ => show c.val * 1 + 0 - 0 = c.val; omega
      | ⟨3, _⟩ => show d.val * 1 + 0 - 0 = d.val; omega
  · rw [dif_neg hk]
    refine dif_neg fun hin => hk ?_
    have h1 : N1 ≤ l.val * 1 + k.val ∧ l.val * 1 + k.val - N1 < N := hin 1
    omega

end Cert.Phasor

end
-- ==== Proof.RefA.lean ====
/- The reference's stages read at an index: the position's trigonometry and the first memory. -/
module

public import proofs.«01_k».proof.Proof.Gen.ReferenceIdeal.Read
public import proofs.«01_k».proof.Proof.Arr
public import proofs.«01_k».proof.Proof.Cumsum

@[expose] public section

set_option maxRecDepth 16384

noncomputable section

namespace Cert.Phasor

open Idealize.ShloMosaic Cert.ReferenceIdeal Cert.ReferenceIdeal.Gen Cert.ReferenceIdeal.Read
open scoped BigOperators

/-- The word zero is the number zero. -/
theorem ofBits_zero_f32' : Ideal.ofBits .f32 0x00000000#32 = 0 := by rw [ofBits_lit _ (by decide), lit_zero, EReal.coe_zero]

/-- A masked sum of reals is the real sum up to `l`. -/
theorem coe_upto (l : Fin 2048) (f : Fin 2048 → ℝ) :
    (∑ j : Fin 2048, if j ≤ l then ((f j : ℝ) : EReal) else 0) = ((upto l f : ℝ) : EReal) := by
  unfold upto
  rw [coe_sum]
  refine Finset.sum_congr rfl fun j _ => ?_
  split
  · rfl
  · exact EReal.coe_zero.symm

variable (X : Arrs)

theorem v6_at (hG : Good X.args) (l : Fin 2048) (p : Fin 32) : val_main_v6 (F := Ideal) X.x1 (ix2 l p) = ((posT X.args l p : ℝ) : EReal) := by
  pointwise [val_main_v0, val_main_cst, val_main_v1, val_main_v2, val_main_v3, val_main_cst_0, val_main_v4, val_main_v5,
    val_main_v6]
  simp (disch := decide) only [ofBits_lit]
  refine Eq.trans ?_ (turn_div _)
  rw [← hG.pp]
  rfl

theorem v47_at (hG : Good X.args) (l : Fin 2048) (p : Fin 32) : val_main_v47 (F := Ideal) X.x1 (ix2 l p) = ((posT X.args l p : ℝ) : EReal) :=
  v6_at X hG l p

theorem v41_at (hG : Good X.args) (l : Fin 2048) (p : Fin 32) : val_main_v41 (F := Ideal) X.x1 (ix2 l p) = ((cosR (posT X.args l p) : ℝ) : EReal) := by
  pointwise [val_main_v7, val_main_cst_1, val_main_v8, val_main_v9, val_main_cst_2, val_main_v10, val_main_v11, val_main_v12,
    val_main_cst_3, val_main_v13, val_main_v14, val_main_v15, val_main_v16, val_main_v17, val_main_cst_4, val_main_v18,
    val_main_v19, val_main_v20, val_main_v21, val_main_v22, val_main_v23, val_main_cst_5, val_main_v24, val_main_v25,
    val_main_v26, val_main_v27, val_main_v28, val_main_v29, val_main_v30, val_main_cst_6, val_main_v31, val_main_v32,
    val_main_v33, val_main_v34, val_main_v35, val_main_v36, val_main_v37, val_main_v38, val_main_cst_7, val_main_v39,
    val_main_v40, val_main_v41]
  rw [v6_at X hG]
  simp (disch := decide) only [ofBits_lit, ← EReal.coe_mul, ← EReal.coe_add, ← EReal.coe_one, ← lit_one]
  rfl

theorem v80_at (hG : Good X.args) (l : Fin 2048) (p : Fin 32) : val_main_v80 (F := Ideal) X.x1 (ix2 l p) = ((sinR (posT X.args l p) : ℝ) : EReal) := by
  pointwise [val_main_v48, val_main_cst_10, val_main_v49, val_main_v50, val_main_v51, val_main_cst_11, val_main_v52, val_main_v53,
    val_main_v54, val_main_v55, val_main_v56, val_main_cst_12, val_main_v57, val_main_v58, val_main_v59, val_main_v60,
    val_main_v61, val_main_v62, val_main_cst_13, val_main_v63, val_main_v64, val_main_v65, val_main_v66, val_main_v67,
    val_main_v68, val_main_v69, val_main_cst_14, val_main_v70, val_main_v71, val_main_v72, val_main_v73, val_main_v74,
    val_main_v75, val_main_v76, val_main_v77, val_main_cst_15, val_main_v78, val_main_v79, val_main_v80]
  rw [v47_at X hG]
  simp (disch := decide) only [ofBits_lit, ← EReal.coe_mul, ← EReal.coe_add]
  rfl

theorem v85_at (b : Fin 2) (l : Fin 2048) (d : Fin 256) : val_main_v85 (F := Ideal) X.x0 X.x2 X.x3 (ix3 b l d) = contentE X.args b l d := by
  pointwise [val_main_v81, val_main_v82, val_main_v83, val_main_v84, val_main_v85, contentE, lin]
  rfl

theorem v91_at (hG : Good X.args) (b : Fin 2) (l : Fin 2048) (p : Fin 32) (d : Fin 256) :
    val_main_v91 (F := Ideal) X.x0 X.x1 X.x2 X.x3 (ix4 b l p d) = ((memC X.args b l p d : ℝ) : EReal) := by
  unfold val_main_v91
  rw [cumsum4 rfl _ _ _ _ (by exact ofBits_zero_f32')]
  pointwise [val_main_v86, val_main_v87, val_main_v88, val_main_v89, val_main_v90]
  refine Eq.trans (Finset.sum_congr rfl fun j _ => ?_) (coe_upto l _)
  rw [v41_at X hG, v85_at, hG.content, ← EReal.coe_mul]
  rfl

theorem v97_at (hG : Good X.args) (b : Fin 2) (l : Fin 2048) (p : Fin 32) (d : Fin 256) :
    val_main_v97 (F := Ideal) X.x0 X.x1 X.x2 X.x3 (ix4 b l p d) = ((memS X.args b l p d : ℝ) : EReal) := by
  unfold val_main_v97
  rw [cumsum4 rfl _ _ _ _ (by exact ofBits_zero_f32')]
  pointwise [val_main_v92, val_main_v93, val_main_v94, val_main_v95, val_main_v96]
  refine Eq.trans (Finset.sum_congr rfl fun j _ => ?_) (coe_upto l _)
  rw [v80_at X hG, v85_at, hG.content, ← EReal.coe_mul]
  rfl

/-- A head's pre-activation, before the hidden layer's gelu. -/
theorem v105_at (b : Fin 2) (h : Fin 4) (l : Fin 2048) (g : Fin 128) :
    val_main_v105 (F := Ideal) X.x0 X.x1 X.x4 X.x5 (ix4 b h l g) = lin (feat X.args b l) (X.args.hw1 h) (X.args.hb1 h) g := by
  pointwise [val_main_v98, val_main_v99, val_main_v100, val_main_v101, val_main_v102, val_main_v103, val_main_v104, val_main_v105, val_main_v0, lin, feat]
  exact congrArg₂ (· + ·) (congrArg₂ (· + ·) (Finset.sum_congr rfl fun f _ => mul_comm _ _)
    (Finset.sum_congr rfl fun f _ => mul_comm _ _)) rfl

theorem v112_at (b : Fin 2) (h : Fin 4) (l : Fin 2048) (g : Fin 128) : val_main_v112 (F := Ideal) X.x0 X.x1 X.x4 X.x5 (ix4 b h l g) = hid X.args b l h g := by
  pointwise [val_main_cst_16, val_main_v106, val_main_v107, val_main_v108, val_main_cst_17, val_main_v109, val_main_v110,
    val_main_v111, val_main_v112]
  rw [v105_at]
  simp (disch := decide) only [ofBits_lit, neg_mul, Ideal.erfc_neg]
  rfl

theorem v117_at (b : Fin 2) (h : Fin 4) (l : Fin 2048) (p : Fin 33) : val_main_v117 (F := Ideal) X.x0 X.x1 X.x4 X.x5 X.x6 X.x7 (ix4 b h l p) = off X.args b l h p := by
  pointwise [val_main_v113, val_main_v114, val_main_v115, val_main_v116, val_main_v117, off, lin]
  simp only [v112_at]
  exact congrArg (· + X.x7 (ix2 h p)) (Finset.sum_congr rfl fun f _ => mul_comm _ _)

theorem v121_at (b : Fin 2) (h : Fin 4) (l : Fin 2048) (p : Fin 32) :
    val_main_v121 (F := Ideal) X.x0 X.x1 X.x4 X.x5 X.x6 X.x7 (ix4 b h l p) = ((center X.args b l h p : ℝ) : EReal) := by
  pointwise [val_main_v118, val_main_v119, val_main_cst_18, val_main_v120, val_main_v121]
  rw [v117_at, ofBits_lit _ (by decide), tanh_mul_pi]
  rfl

theorem v132_at (b : Fin 2) (h : Fin 4) (l : Fin 2048) :
    val_main_v132 (F := Ideal) X.x0 X.x1 X.x4 X.x5 X.x6 X.x7 (ix4 b h l 0) = ((widR (wpre X.args b l h) : ℝ) : EReal) := by
  pointwise [val_main_v122, val_main_v123, val_main_v124, val_main_cst_19, val_main_v125, val_main_v126, val_main_cst_20,
    val_main_v127, val_main_v128, val_main_cst_21, val_main_v129, val_main_v130, val_main_cst_22, val_main_v131,
    val_main_v132]
  rw [v117_at, one_div_one_add_exp_neg]
  simp (disch := decide) only [ofBits_lit, ← EReal.coe_mul, ← EReal.coe_add]
  rfl

theorem v138_at (b : Fin 2) (h : Fin 4) (l : Fin 2048) (p : Fin 32) :
    val_main_v138 (F := Ideal) X.x0 X.x1 X.x4 X.x5 X.x6 X.x7 (ix4 b h l p) = ((center X.args b l h p : ℝ) : EReal) := by
  pointwise [val_main_cst_23, val_main_v133, val_main_v134, val_main_v135, val_main_cst_24, val_main_v136, val_main_v137,
    val_main_v138]
  rw [v121_at]
  simp (disch := decide) only [ofBits_lit]
  refine (turn_div _).trans ?_
  rw [center, turnR_phaseR]

theorem v179_at (b : Fin 2) (h : Fin 4) (l : Fin 2048) (p : Fin 32) :
    val_main_v179 (F := Ideal) X.x0 X.x1 X.x4 X.x5 X.x6 X.x7 (ix4 b h l p) = ((center X.args b l h p : ℝ) : EReal) := v138_at X b h l p

theorem v173_at (b : Fin 2) (h : Fin 4) (l : Fin 2048) (p : Fin 32) :
    val_main_v173 (F := Ideal) X.x0 X.x1 X.x4 X.x5 X.x6 X.x7 (ix4 b h l p) = ((cosR (center X.args b l h p) : ℝ) : EReal) := by
  pointwise [val_main_v139, val_main_cst_25, val_main_v140, val_main_v141, val_main_cst_26, val_main_v142, val_main_v143,
    val_main_v144, val_main_cst_27, val_main_v145, val_main_v146, val_main_v147, val_main_v148, val_main_v149,
    val_main_cst_28, val_main_v150, val_main_v151, val_main_v152, val_main_v153, val_main_v154, val_main_v155,
    val_main_cst_29, val_main_v156, val_main_v157, val_main_v158, val_main_v159, val_main_v160, val_main_v161,
    val_main_v162, val_main_cst_30, val_main_v163, val_main_v164, val_main_v165, val_main_v166, val_main_v167,
    val_main_v168, val_main_v169, val_main_v170, val_main_cst_31, val_main_v171, val_main_v172, val_main_v173]
  rw [v138_at]
  simp (disch := decide) only [ofBits_lit, ← EReal.coe_mul, ← EReal.coe_add, ← EReal.coe_one, ← lit_one]
  rfl

theorem v212_at (b : Fin 2) (h : Fin 4) (l : Fin 2048) (p : Fin 32) :
    val_main_v212 (F := Ideal) X.x0 X.x1 X.x4 X.x5 X.x6 X.x7 (ix4 b h l p) = ((sinR (center X.args b l h p) : ℝ) : EReal) := by
  pointwise [val_main_v180, val_main_cst_34, val_main_v181, val_main_v182, val_main_v183, val_main_cst_35, val_main_v184,
    val_main_v185, val_main_v186, val_main_v187, val_main_v188, val_main_cst_36, val_main_v189, val_main_v190,
    val_main_v191, val_main_v192, val_main_v193, val_main_v194, val_main_cst_37, val_main_v195, val_main_v196,
    val_main_v197, val_main_v198, val_main_v199, val_main_v200, val_main_v201, val_main_cst_38, val_main_v202,
    val_main_v203, val_main_v204, val_main_v205, val_main_v206, val_main_v207, val_main_v208, val_main_v209,
    val_main_cst_39, val_main_v210, val_main_v211, val_main_v212]
  rw [v179_at]
  simp (disch := decide) only [ofBits_lit, ← EReal.coe_mul, ← EReal.coe_add]
  rfl

/-- An exponent over the width's square. -/
theorem exp_div_var (a : ℝ) (t : EReal) :
    Ideal.exp (Ideal.div ((a : ℝ) : EReal) ((widR t * widR t + lit 0x358637BD#32 : ℝ) : EReal)) = ((Real.exp (a / varR t) : ℝ) : EReal) := by
  rw [div_real (show widR t * widR t + lit 0x358637BD#32 ≠ 0 from (varR_pos t).ne'), Ideal.exp_coe]
  rfl

theorem v220_at (b : Fin 2) (h : Fin 4) (l : Fin 2048) : val_main_v220 (F := Ideal) X.x0 X.x1 X.x4 X.x5 X.x6 X.x7 (ix4 b h l 0) = ((w2R (wpre X.args b l h) : ℝ) : EReal) := by
  pointwise [val_main_v215, val_main_cst_42, val_main_v216, val_main_v217, val_main_cst_43, val_main_v218, val_main_v219,
    val_main_v220]
  rw [v132_at]
  simp (disch := decide) only [ofBits_lit, ← EReal.coe_mul, ← EReal.coe_add, lit_neg_two]
  exact exp_div_var _ _

theorem v261_at (b : Fin 2) (h : Fin 4) (l : Fin 2048) : val_main_v261 (F := Ideal) X.x0 X.x1 X.x4 X.x5 X.x6 X.x7 (ix4 b h l 0) = ((w1R (wpre X.args b l h) : ℝ) : EReal) := by
  pointwise [val_main_v256, val_main_cst_49, val_main_v257, val_main_v258, val_main_cst_50, val_main_v259, val_main_v260,
    val_main_v261]
  rw [v132_at]
  simp (disch := decide) only [ofBits_lit, ← EReal.coe_mul, ← EReal.coe_add, lit_neg_half]
  exact exp_div_var _ _

theorem v302_at (b : Fin 2) (h : Fin 4) (l : Fin 2048) : val_main_v302 (F := Ideal) X.x0 X.x1 X.x4 X.x5 X.x6 X.x7 (ix4 b h l 0) = ((1 : ℝ) : EReal) := by
  pointwise [val_main_v297, val_main_cst_56, val_main_v298, val_main_v299, val_main_cst_57, val_main_v300, val_main_v301,
    val_main_v302]
  rw [v132_at]
  simp (disch := decide) only [ofBits_lit, ← EReal.coe_mul, ← EReal.coe_add, lit_neg_zero]
  rw [exp_div_var, zero_div, Real.exp_zero]

theorem v343_at (b : Fin 2) (h : Fin 4) (l : Fin 2048) : val_main_v343 (F := Ideal) X.x0 X.x1 X.x4 X.x5 X.x6 X.x7 (ix4 b h l 0) = ((w1R (wpre X.args b l h) : ℝ) : EReal) :=
  v261_at X b h l

theorem v384_at (b : Fin 2) (h : Fin 4) (l : Fin 2048) : val_main_v384 (F := Ideal) X.x0 X.x1 X.x4 X.x5 X.x6 X.x7 (ix4 b h l 0) = ((w2R (wpre X.args b l h) : ℝ) : EReal) :=
  v220_at X b h l

/-- The part of a head's reading that the offsets' sines multiply. -/
def headY (A : Args) (b : Fin 2) (l : Fin 2048) (h : Fin 4) (d : Fin 256) : ℝ :=
  ∑ p : Fin 32,
    (memC A b l p d * (-(cosR (posT A l p) * sinR (center A b l h p)) - sinR (posT A l p) * cosR (center A b l h p)) +
      memS A b l p d * (cosR (posT A l p) * cosR (center A b l h p) - sinR (posT A l p) * sinR (center A b l h p)))

/-- A head's reading at an offset of cosine `c` and sine `s`. -/
theorem ret_eq (A : Args) (b : Fin 2) (l : Fin 2048) (h : Fin 4) (d : Fin 256) (c s : ℝ) :
    Ideal.div
      (∑ p : Fin 32, (((cosR (posT A l p) : ℝ) : EReal) * (((cosR (center A b l h p) : ℝ) : EReal) * (c : EReal) -
            ((sinR (center A b l h p) : ℝ) : EReal) * (s : EReal)) - ((sinR (posT A l p) : ℝ) : EReal) *
            (((sinR (center A b l h p) : ℝ) : EReal) * (c : EReal) + ((cosR (center A b l h p) : ℝ) : EReal) * (s : EReal))) *
            ((memC A b l p d : ℝ) : EReal) +
        ∑ p : Fin 32, (((sinR (posT A l p) : ℝ) : EReal) * (((cosR (center A b l h p) : ℝ) : EReal) * (c : EReal) -
            ((sinR (center A b l h p) : ℝ) : EReal) * (s : EReal)) + ((cosR (posT A l p) : ℝ) : EReal) *
            (((sinR (center A b l h p) : ℝ) : EReal) * (c : EReal) + ((cosR (center A b l h p) : ℝ) : EReal) * (s : EReal))) *
            ((memS A b l p d : ℝ) : EReal)) ((lit 0x40B504F3#32 : ℝ) : EReal) =
      (((c * headX A b l h d + s * headY A b l h d) / lit 0x40B504F3#32 : ℝ) : EReal) := by
  simp only [← EReal.coe_mul, ← EReal.coe_add, ← EReal.coe_sub, ← coe_sum]
  rw [div_real (by rw [lit_sqrt_p]; norm_num), window_sum]
  rfl

theorem v251_at (hG : Good X.args) (b : Fin 2) (h : Fin 4) (l : Fin 2048) (d : Fin 256) :
    val_main_v251 (F := Ideal) X.x0 X.x1 X.x2 X.x3 X.x4 X.x5 X.x6 X.x7 (ix4 b h l d) = (((lit 0x3F7AE5A5#32 * headX X.args b l h d + lit 0xBE4B6FF9#32 * headY X.args b l h d) / lit 0x40B504F3#32 : ℝ) : EReal) := by
  pointwise [val_main_cst_44, val_main_v221, val_main_v222, val_main_cst_45, val_main_v223, val_main_v224, val_main_v225,
    val_main_cst_46, val_main_v226, val_main_v227, val_main_cst_47, val_main_v228, val_main_v229, val_main_v230,
    val_main_v231, val_main_v232, val_main_v233, val_main_v234, val_main_v235, val_main_v236, val_main_v237, val_main_v238,
    val_main_v239, val_main_v240, val_main_v241, val_main_v242, val_main_v243, val_main_v244, val_main_v245, val_main_v246,
    val_main_v247, val_main_v248, val_main_v249, val_main_cst_48, val_main_v250, val_main_v251]
  simp (disch := decide) only [ofBits_lit, v41_at X hG, v80_at X hG, v91_at X hG, v97_at X hG, v173_at, v212_at]
  exact ret_eq X.args b l h d _ _

theorem v292_at (hG : Good X.args) (b : Fin 2) (h : Fin 4) (l : Fin 2048) (d : Fin 256) :
    val_main_v292 (F := Ideal) X.x0 X.x1 X.x2 X.x3 X.x4 X.x5 X.x6 X.x7 (ix4 b h l d) = (((lit 0x3F7EB898#32 * headX X.args b l h d + lit 0xBDCC7576#32 * headY X.args b l h d) / lit 0x40B504F3#32 : ℝ) : EReal) := by
  pointwise [val_main_cst_51, val_main_v262, val_main_v263, val_main_cst_52, val_main_v264, val_main_v265, val_main_v266,
    val_main_cst_53, val_main_v267, val_main_v268, val_main_cst_54, val_main_v269, val_main_v270, val_main_v271,
    val_main_v272, val_main_v273, val_main_v274, val_main_v275, val_main_v276, val_main_v277, val_main_v278, val_main_v279,
    val_main_v280, val_main_v281, val_main_v282, val_main_v283, val_main_v284, val_main_v285, val_main_v286, val_main_v287,
    val_main_v288, val_main_v289, val_main_v290, val_main_cst_55, val_main_v291, val_main_v292]
  simp (disch := decide) only [ofBits_lit, v41_at X hG, v80_at X hG, v91_at X hG, v97_at X hG, v173_at, v212_at]
  exact ret_eq X.args b l h d _ _

theorem v333_at (hG : Good X.args) (b : Fin 2) (h : Fin 4) (l : Fin 2048) (d : Fin 256) :
    val_main_v333 (F := Ideal) X.x0 X.x1 X.x2 X.x3 X.x4 X.x5 X.x6 X.x7 (ix4 b h l d) = (((headX X.args b l h d + 0 * headY X.args b l h d) / lit 0x40B504F3#32 : ℝ) : EReal) := by
  pointwise [val_main_cst_58, val_main_v303, val_main_v304, val_main_cst_59, val_main_v305, val_main_v306, val_main_v307,
    val_main_cst_60, val_main_v308, val_main_v309, val_main_cst_61, val_main_v310, val_main_v311, val_main_v312,
    val_main_v313, val_main_v314, val_main_v315, val_main_v316, val_main_v317, val_main_v318, val_main_v319, val_main_v320,
    val_main_v321, val_main_v322, val_main_v323, val_main_v324, val_main_v325, val_main_v326, val_main_v327, val_main_v328,
    val_main_v329, val_main_v330, val_main_v331, val_main_cst_62, val_main_v332, val_main_v333]
  simp (disch := decide) only [ofBits_lit, v41_at X hG, v80_at X hG, v91_at X hG, v97_at X hG, v173_at, v212_at]
  have e := ret_eq X.args b l h d 1 0
  simp only [EReal.coe_one, EReal.coe_zero, mul_one, one_mul] at e
  exact e

theorem v374_at (hG : Good X.args) (b : Fin 2) (h : Fin 4) (l : Fin 2048) (d : Fin 256) :
    val_main_v374 (F := Ideal) X.x0 X.x1 X.x2 X.x3 X.x4 X.x5 X.x6 X.x7 (ix4 b h l d) = (((lit 0x3F7EB898#32 * headX X.args b l h d + lit 0x3DCC7576#32 * headY X.args b l h d) / lit 0x40B504F3#32 : ℝ) : EReal) := by
  pointwise [val_main_cst_65, val_main_v344, val_main_v345, val_main_cst_66, val_main_v346, val_main_v347, val_main_v348,
    val_main_cst_67, val_main_v349, val_main_v350, val_main_cst_68, val_main_v351, val_main_v352, val_main_v353,
    val_main_v354, val_main_v355, val_main_v356, val_main_v357, val_main_v358, val_main_v359, val_main_v360, val_main_v361,
    val_main_v362, val_main_v363, val_main_v364, val_main_v365, val_main_v366, val_main_v367, val_main_v368, val_main_v369,
    val_main_v370, val_main_v371, val_main_v372, val_main_cst_69, val_main_v373, val_main_v374]
  simp (disch := decide) only [ofBits_lit, v41_at X hG, v80_at X hG, v91_at X hG, v97_at X hG, v173_at, v212_at]
  exact ret_eq X.args b l h d _ _

theorem v415_at (hG : Good X.args) (b : Fin 2) (h : Fin 4) (l : Fin 2048) (d : Fin 256) :
    val_main_v415 (F := Ideal) X.x0 X.x1 X.x2 X.x3 X.x4 X.x5 X.x6 X.x7 (ix4 b h l d) = (((lit 0x3F7AE5A5#32 * headX X.args b l h d + lit 0x3E4B6FF9#32 * headY X.args b l h d) / lit 0x40B504F3#32 : ℝ) : EReal) := by
  pointwise [val_main_cst_72, val_main_v385, val_main_v386, val_main_cst_73, val_main_v387, val_main_v388, val_main_v389,
    val_main_cst_74, val_main_v390, val_main_v391, val_main_cst_75, val_main_v392, val_main_v393, val_main_v394,
    val_main_v395, val_main_v396, val_main_v397, val_main_v398, val_main_v399, val_main_v400, val_main_v401, val_main_v402,
    val_main_v403, val_main_v404, val_main_v405, val_main_v406, val_main_v407, val_main_v408, val_main_v409, val_main_v410,
    val_main_v411, val_main_v412, val_main_v413, val_main_cst_76, val_main_v414, val_main_v415]
  simp (disch := decide) only [ofBits_lit, v41_at X hG, v80_at X hG, v91_at X hG, v97_at X hG, v173_at, v212_at]
  exact ret_eq X.args b l h d _ _

/-- The five weighted readings over the weights' sum. -/
theorem v423_at (hG : Good X.args) (b : Fin 2) (h : Fin 4) (l : Fin 2048) (d : Fin 256) :
    val_main_v423 (F := Ideal) X.x0 X.x1 X.x2 X.x3 X.x4 X.x5 X.x6 X.x7 (ix4 b h l d) = ((gainR (wpre X.args b l h) * headX X.args b l h d / lit 0x40B504F3#32 : ℝ) : EReal) := by
  pointwise [val_main_cst_40, val_main_v213, val_main_cst_41, val_main_v214, val_main_v252, val_main_v253, val_main_v254, val_main_v255, val_main_v293, val_main_v294, val_main_v295, val_main_v296, val_main_v334, val_main_v335, val_main_v336, val_main_v337, val_main_v375, val_main_v376, val_main_v377, val_main_v378, val_main_v416, val_main_v417, val_main_v418, val_main_v419, val_main_cst_77, val_main_v420, val_main_v421,
    val_main_v422, val_main_v423]
  simp (disch := decide) only [ofBits_lit, v220_at, v261_at, v302_at, v343_at, v384_at, v251_at X hG, v292_at X hG, v333_at X hG,
    v374_at X hG, v415_at X hG]
  simp only [← EReal.coe_mul, ← EReal.coe_add]
  have ht : w2R (wpre X.args b l h) + w1R (wpre X.args b l h) + 1 + w1R (wpre X.args b l h) + w2R (wpre X.args b l h) +
      lit 0x358637BD#32 = totR (wpre X.args b l h) := by unfold totR; ring
  rw [ht, div_real (totR_pos _).ne', lit_neg_sin1, lit_neg_sin2]
  congr 1
  unfold gainR
  ring

theorem v426_at (hG : Good X.args) (b : Fin 2) (l : Fin 2048) (d : Fin 256) :
    val_main_v426 (F := Ideal) X.x0 X.x1 X.x2 X.x3 X.x4 X.x5 X.x6 X.x7 (ix3 b l d) = ((multiR X.args b l d : ℝ) : EReal) := by
  pointwise [val_main_cst_78, val_main_v424, val_main_cst_79, val_main_v425, val_main_v426]
  simp only [v423_at X hG]
  rw [← coe_sum, ofBits_lit _ (by decide), lit_four, div_real (by norm_num)]
  rfl

end Cert.Phasor

end
-- ==== Proof.RefB.lean ====
/- The reference's stages read at an index: the second memory, the normalization and the result. -/
module

public import proofs.«01_k».proof.Proof.RefA
public import Idealize.ShloMosaic.Lib.WordCmp

@[expose] public section

set_option maxRecDepth 16384

noncomputable section

namespace Cert.Phasor

open Idealize.ShloMosaic Cert.ReferenceIdeal Cert.ReferenceIdeal.Gen Cert.ReferenceIdeal.Read
open scoped BigOperators

variable (X : Arrs)

/-- The key's phase. -/
theorem v434_at (b : Fin 2) (l : Fin 2048) (p : Fin 32) : val_main_v434 (F := Ideal) X.x0 X.x8 X.x9 (ix3 b l p) = ((keyR X.args b l p : ℝ) : EReal) := by
  pointwise [val_main_v427, val_main_v428, val_main_v429, val_main_v430, val_main_v431, val_main_v432, val_main_cst_80,
    val_main_v433, val_main_v434]
  rw [ofBits_lit _ (by decide), tanh_mul_pi]
  rfl

theorem v439_at (b : Fin 2) (l : Fin 2048) (d : Fin 256) : val_main_v439 (F := Ideal) X.x0 X.x10 X.x11 (ix3 b l d) = valE X.args b l d := by
  pointwise [val_main_v435, val_main_v436, val_main_v437, val_main_v438, val_main_v439]
  rfl

theorem v451_at (b : Fin 2) (l : Fin 2048) (g : Fin 128) : val_main_v451 (F := Ideal) X.x0 X.x18 X.x19 (ix3 b l g) = ghid X.args b l g := by
  pointwise [val_main_v440, val_main_v441, val_main_v442, val_main_v443, val_main_v444, val_main_cst_81, val_main_v445,
    val_main_v446, val_main_v447, val_main_cst_82, val_main_v448, val_main_v449, val_main_v450, val_main_v451]
  simp (disch := decide) only [ofBits_lit, neg_mul, Ideal.erfc_neg]
  rfl

theorem v462_at (b : Fin 2) (l : Fin 2048) : val_main_v462 (F := Ideal) X.x0 X.x18 X.x19 X.x20 X.x21 (ix3 b l 0) = ((gateR X.args b l : ℝ) : EReal) := by
  pointwise [val_main_v452, val_main_v453, val_main_v454, val_main_v455, val_main_v456, val_main_v457, val_main_v458,
    val_main_cst_83, val_main_v459, val_main_v460, val_main_cst_84, val_main_v461, val_main_v462]
  simp only [v451_at]
  rw [one_div_one_add_exp_neg]
  rfl

theorem v467_at (b : Fin 2) (l : Fin 2048) (d : Fin 256) : val_main_v467 (F := Ideal) X.x0 X.x12 X.x13 (ix3 b l d) = ctxE X.args b l d := by
  pointwise [val_main_v463, val_main_v464, val_main_v465, val_main_v466, val_main_v467]
  rfl

theorem v468_at (b : Fin 2) (l : Fin 2048) (d : Fin 256) : val_main_v468 (F := Ideal) X.x0 X.x12 X.x13 (ix3 b l d) = ctxCum X.args b l d := by
  unfold val_main_v468
  rw [cumsum3 rfl _ _ _ _ (by exact ofBits_zero_f32')]
  simp only [v467_at]
  rfl

theorem v474_at (b : Fin 2) (l : Fin 2048) (d : Fin 256) : val_main_v474 (F := Ideal) X.x0 X.x12 X.x13 (ix3 b l d) = ctxAvg X.args b l d := by
  pointwise [val_main_v469, val_main_cst_85, val_main_v470, val_main_v471, val_main_v472, val_main_v473, val_main_v474]
  rw [v468_at]
  have hs : FloatOps.sitofp (F := Ideal) .f32 (BitVec.ofNat 32 l.val) = (((l.val : ℝ) : ℝ) : EReal) := by
    show (((BitVec.ofNat 32 l.val).toInt : ℝ) : EReal) = _
    rw [WordCmp.toInt_ofNat_of_lt (by omega)]
    push_cast
    rfl
  rw [hs, ← EReal.coe_one, ← EReal.coe_add, add_comm (1 : ℝ)]
  unfold ctxAvg
  rw [Ideal.div_coe (by positivity)]

theorem v480_at (b : Fin 2) (l : Fin 2048) (g : Fin 256) : val_main_v480 (F := Ideal) X.x0 X.x12 X.x13 X.x14 X.x15 (ix3 b l g) = lin (stin X.args b l) X.args.kw1 X.args.kb1 g := by
  pointwise [val_main_v475, val_main_v476, val_main_v477, val_main_v478, val_main_v479, val_main_v480, lin, stin]
  simp only [v474_at]
  rfl

theorem v487_at (b : Fin 2) (l : Fin 2048) (g : Fin 256) : val_main_v487 (F := Ideal) X.x0 X.x12 X.x13 X.x14 X.x15 (ix3 b l g) = sphid X.args b l g := by
  pointwise [val_main_cst_86, val_main_v481, val_main_v482, val_main_v483, val_main_cst_87, val_main_v484, val_main_v485,
    val_main_v486, val_main_v487]
  rw [v480_at]
  simp (disch := decide) only [ofBits_lit, neg_mul, Ideal.erfc_neg]
  rfl

theorem v495_at (b : Fin 2) (l : Fin 2048) (p : Fin 32) : val_main_v495 (F := Ideal) X.x0 X.x12 X.x13 X.x14 X.x15 X.x16 X.x17 (ix3 b l p) = ((spR X.args b l p : ℝ) : EReal) := by
  pointwise [val_main_v488, val_main_v489, val_main_v490, val_main_v491, val_main_v492, val_main_v493, val_main_cst_88,
    val_main_v494, val_main_v495]
  simp only [v487_at]
  rw [ofBits_lit _ (by decide), tanh_mul_pi]
  rfl

theorem v497_at (hG : Good X.args) (b : Fin 2) (l : Fin 2048) (d : Fin 256) :
    val_main_v497 (F := Ideal) X.x0 X.x10 X.x11 X.x18 X.x19 X.x20 X.x21 (ix3 b l d) = ((gvR X.args b l d : ℝ) : EReal) := by
  pointwise [val_main_v496, val_main_v497]
  rw [v439_at, v462_at, hG.val, ← EReal.coe_mul]
  rfl

/-- A phase reduced by whole turns. -/
theorem v503_at (b : Fin 2) (l : Fin 2048) (p : Fin 32) : val_main_v503 (F := Ideal) X.x0 X.x12 X.x13 X.x14 X.x15 X.x16 X.x17 (ix3 b l p) = ((spR X.args b l p : ℝ) : EReal) := by
  pointwise [val_main_cst_89, val_main_v498, val_main_v499, val_main_v500, val_main_cst_90, val_main_v501, val_main_v502,
    val_main_v503]
  rw [v495_at]
  simp (disch := decide) only [ofBits_lit]
  refine (turn_div _).trans ?_
  rw [spR, turnR_phaseR]

theorem v550_at (b : Fin 2) (l : Fin 2048) (p : Fin 32) : val_main_v550 (F := Ideal) X.x0 X.x12 X.x13 X.x14 X.x15 X.x16 X.x17 (ix3 b l p) = ((spR X.args b l p : ℝ) : EReal) := v503_at X b l p

theorem v597_at (b : Fin 2) (l : Fin 2048) (p : Fin 32) : val_main_v597 (F := Ideal) X.x0 X.x8 X.x9 (ix3 b l p) = ((keyR X.args b l p : ℝ) : EReal) := by
  pointwise [val_main_cst_107, val_main_v592, val_main_v593, val_main_v594, val_main_cst_108, val_main_v595, val_main_v596,
    val_main_v597]
  rw [v434_at]
  simp (disch := decide) only [ofBits_lit]
  refine (turn_div _).trans ?_
  rw [keyR, turnR_phaseR]

theorem v639_at (b : Fin 2) (l : Fin 2048) (p : Fin 32) : val_main_v639 (F := Ideal) X.x0 X.x8 X.x9 (ix3 b l p) = ((keyR X.args b l p : ℝ) : EReal) := v597_at X b l p

theorem v538_at (b : Fin 2) (l : Fin 2048) (p : Fin 32) : val_main_v538 (F := Ideal) X.x0 X.x12 X.x13 X.x14 X.x15 X.x16 X.x17 (ix3 b l p) = ((cosR (spR X.args b l p) : ℝ) : EReal) := by
  pointwise [val_main_v504, val_main_cst_91, val_main_v505, val_main_v506, val_main_cst_92, val_main_v507, val_main_v508,
    val_main_v509, val_main_cst_93, val_main_v510, val_main_v511, val_main_v512, val_main_v513, val_main_v514,
    val_main_cst_94, val_main_v515, val_main_v516, val_main_v517, val_main_v518, val_main_v519, val_main_v520,
    val_main_cst_95, val_main_v521, val_main_v522, val_main_v523, val_main_v524, val_main_v525, val_main_v526,
    val_main_v527, val_main_cst_96, val_main_v528, val_main_v529, val_main_v530, val_main_v531, val_main_v532,
    val_main_v533, val_main_v534, val_main_v535, val_main_cst_97, val_main_v536, val_main_v537, val_main_v538]
  rw [v503_at]
  simp (disch := decide) only [ofBits_lit, ← EReal.coe_mul, ← EReal.coe_add, ← EReal.coe_one, ← lit_one]
  rfl

theorem v583_at (b : Fin 2) (l : Fin 2048) (p : Fin 32) : val_main_v583 (F := Ideal) X.x0 X.x12 X.x13 X.x14 X.x15 X.x16 X.x17 (ix3 b l p) = ((sinR (spR X.args b l p) : ℝ) : EReal) := by
  pointwise [val_main_v551, val_main_cst_100, val_main_v552, val_main_v553, val_main_v554, val_main_cst_101, val_main_v555,
    val_main_v556, val_main_v557, val_main_v558, val_main_v559, val_main_cst_102, val_main_v560, val_main_v561,
    val_main_v562, val_main_v563, val_main_v564, val_main_v565, val_main_cst_103, val_main_v566, val_main_v567,
    val_main_v568, val_main_v569, val_main_v570, val_main_v571, val_main_v572, val_main_cst_104, val_main_v573,
    val_main_v574, val_main_v575, val_main_v576, val_main_v577, val_main_v578, val_main_v579, val_main_v580,
    val_main_cst_105, val_main_v581, val_main_v582, val_main_v583]
  rw [v550_at]
  simp (disch := decide) only [ofBits_lit, ← EReal.coe_mul, ← EReal.coe_add]
  rfl

theorem v632_at (b : Fin 2) (l : Fin 2048) (p : Fin 32) : val_main_v632 (F := Ideal) X.x0 X.x8 X.x9 (ix3 b l p) = ((cosR (keyR X.args b l p) : ℝ) : EReal) := by
  pointwise [val_main_v598, val_main_cst_109, val_main_v599, val_main_v600, val_main_cst_110, val_main_v601, val_main_v602,
    val_main_v603, val_main_cst_111, val_main_v604, val_main_v605, val_main_v606, val_main_v607, val_main_v608,
    val_main_cst_112, val_main_v609, val_main_v610, val_main_v611, val_main_v612, val_main_v613, val_main_v614,
    val_main_cst_113, val_main_v615, val_main_v616, val_main_v617, val_main_v618, val_main_v619, val_main_v620,
    val_main_v621, val_main_cst_114, val_main_v622, val_main_v623, val_main_v624, val_main_v625, val_main_v626,
    val_main_v627, val_main_v628, val_main_v629, val_main_cst_115, val_main_v630, val_main_v631, val_main_v632]
  rw [v597_at]
  simp (disch := decide) only [ofBits_lit, ← EReal.coe_mul, ← EReal.coe_add, ← EReal.coe_one, ← lit_one]
  rfl

theorem v672_at (b : Fin 2) (l : Fin 2048) (p : Fin 32) : val_main_v672 (F := Ideal) X.x0 X.x8 X.x9 (ix3 b l p) = ((sinR (keyR X.args b l p) : ℝ) : EReal) := by
  pointwise [val_main_v640, val_main_cst_118, val_main_v641, val_main_v642, val_main_v643, val_main_cst_119, val_main_v644,
    val_main_v645, val_main_v646, val_main_v647, val_main_v648, val_main_cst_120, val_main_v649, val_main_v650,
    val_main_v651, val_main_v652, val_main_v653, val_main_v654, val_main_cst_121, val_main_v655, val_main_v656,
    val_main_v657, val_main_v658, val_main_v659, val_main_v660, val_main_v661, val_main_cst_122, val_main_v662,
    val_main_v663, val_main_v664, val_main_v665, val_main_v666, val_main_v667, val_main_v668, val_main_v669,
    val_main_cst_123, val_main_v670, val_main_v671, val_main_v672]
  rw [v639_at]
  simp (disch := decide) only [ofBits_lit, ← EReal.coe_mul, ← EReal.coe_add]
  rfl

theorem v544_at (hG : Good X.args) (b : Fin 2) (l : Fin 2048) (p : Fin 32) (d : Fin 256) :
    val_main_v544 (F := Ideal) X.x0 X.x10 X.x11 X.x12 X.x13 X.x14 X.x15 X.x16 X.x17 X.x18 X.x19 X.x20 X.x21 (ix4 b l p d) = ((kvC X.args b l p d : ℝ) : EReal) := by
  unfold val_main_v544
  rw [cumsum4 rfl _ _ _ _ (by exact ofBits_zero_f32')]
  pointwise [val_main_v539, val_main_v540, val_main_v541, val_main_v542, val_main_v543]
  refine Eq.trans (Finset.sum_congr rfl fun j _ => ?_) (coe_upto l _)
  rw [v538_at, v497_at X hG, ← EReal.coe_mul]

theorem v589_at (hG : Good X.args) (b : Fin 2) (l : Fin 2048) (p : Fin 32) (d : Fin 256) :
    val_main_v589 (F := Ideal) X.x0 X.x10 X.x11 X.x12 X.x13 X.x14 X.x15 X.x16 X.x17 X.x18 X.x19 X.x20 X.x21 (ix4 b l p d) = ((kvS X.args b l p d : ℝ) : EReal) := by
  unfold val_main_v589
  rw [cumsum4 rfl _ _ _ _ (by exact ofBits_zero_f32')]
  pointwise [val_main_v584, val_main_v585, val_main_v586, val_main_v587, val_main_v588]
  refine Eq.trans (Finset.sum_congr rfl fun j _ => ?_) (coe_upto l _)
  rw [v583_at, v497_at X hG, ← EReal.coe_mul]

theorem v590_at (b : Fin 2) (l : Fin 2048) : val_main_v590 (F := Ideal) X.x0 X.x18 X.x19 X.x20 X.x21 (ix3 b l 0) = ((gateCum X.args b l : ℝ) : EReal) := by
  unfold val_main_v590
  rw [cumsum3 rfl _ _ _ _ (by exact ofBits_zero_f32')]
  simp only [v462_at]
  exact coe_upto l _

/-- The reading of the second memory. -/
theorem v679_at (hG : Good X.args) (b : Fin 2) (l : Fin 2048) (d : Fin 256) :
    val_main_v679 (F := Ideal) X.x0 X.x8 X.x9 X.x10 X.x11 X.x12 X.x13 X.x14 X.x15 X.x16 X.x17 X.x18 X.x19 X.x20 X.x21 (ix3 b l d) = ((kvR X.args b l d : ℝ) : EReal) := by
  pointwise [val_main_cst_106, val_main_call12_v0, val_main_call12_v1, val_main_v591, val_main_v633, val_main_v673, val_main_v674, val_main_v675, val_main_cst_124, val_main_v676, val_main_v677, val_main_v678,
    val_main_v679]
  simp (disch := decide) only [v544_at X hG, v589_at X hG, v632_at, v672_at, v590_at, ofBits_lit]
  have h1 : id (constant (F := Ideal) S_ .f32 0x3F800000#32) ix0 = ((1 : ℝ) : EReal) := by
    show Ideal.ofBits .f32 0x3F800000#32 = _
    rw [ofBits_lit _ (by decide), lit_one]
  have hG : 0 < max (gateCum X.args b l) 1 := lt_max_of_lt_right one_pos
  have hq : 0 < lit 0x40B504F3#32 := by rw [lit_sqrt_p]; norm_num
  rw [h1, max_comm, ← EReal.coe_strictMono.monotone.map_max, Ideal.sqrt_coe, if_neg (not_lt.2 hG.le)]
  simp only [← EReal.coe_mul, ← EReal.coe_add, ← coe_sum]
  rw [div_real (mul_pos (Real.sqrt_pos.2 hG) hq).ne']
  rfl

theorem v680_at (hG : Good X.args) (b : Fin 2) (l : Fin 2048) (d : Fin 256) :
    val_main_v680 (F := Ideal) X.x0 X.x1 X.x2 X.x3 X.x4 X.x5 X.x6 X.x7 X.x8 X.x9 X.x10 X.x11 X.x12 X.x13 X.x14 X.x15 X.x16 X.x17 X.x18 X.x19 X.x20 X.x21 (ix3 b l d) = ((combR X.args b l d : ℝ) : EReal) := by
  pointwise [val_main_v680]
  rw [v426_at X hG, v679_at X hG, ← EReal.coe_add]
  rfl

theorem v684_at (hG : Good X.args) (b : Fin 2) (l : Fin 2048) :
    val_main_v684 (F := Ideal) X.x0 X.x1 X.x2 X.x3 X.x4 X.x5 X.x6 X.x7 X.x8 X.x9 X.x10 X.x11 X.x12 X.x13 X.x14 X.x15 X.x16 X.x17 X.x18 X.x19 X.x20 X.x21 (ix3 b l 0) = ((meanR X.args b l : ℝ) : EReal) := by
  pointwise [val_main_cst_125, val_main_v681, val_main_v682, val_main_cst_126, val_main_v683, val_main_v684]
  simp only [v680_at X hG]
  rw [← coe_sum, ofBits_lit _ (by decide), lit_256, div_real (by norm_num)]
  rfl

theorem v685_at (hG : Good X.args) (b : Fin 2) (l : Fin 2048) :
    val_main_v685 (F := Ideal) X.x0 X.x1 X.x2 X.x3 X.x4 X.x5 X.x6 X.x7 X.x8 X.x9 X.x10 X.x11 X.x12 X.x13 X.x14 X.x15 X.x16 X.x17 X.x18 X.x19 X.x20 X.x21 (ix3 b l 0) = ((vrncR X.args b l : ℝ) : EReal) := by
  pointwise [val_main_c, val_main_call15_cst, val_main_call15_v0, val_main_call15_v1, val_main_call15_cst_0, val_main_call15_v2,
    val_main_call15_v3, val_main_call15_v4, val_main_call15_v5, val_main_call15_v6, val_main_call15_v7,
    val_main_call15_cst_1, val_main_call15_v8, val_main_call15_cst_2, val_main_call15_v9, val_main_call15_v10,
    val_main_call15_v11, val_main_call15_v12, val_main_call15_cst_3, val_main_call15_v13, val_main_call15_cst_4,
    val_main_call15_call0_v0, val_main_call15_call0_v1, val_main_v685]
  simp only [v680_at X hG]
  have h0 : FloatOps.sitofp (F := Ideal) .f32 0#32 = ((0 : ℝ) : EReal) := by
    show (((0#32 : BitVec 32).toInt : ℝ) : EReal) = _
    simp
  rw [h0, ofBits_lit _ (by decide), ← EReal.coe_sub, lit_256, sub_zero,
    if_pos (by rw [← EReal.coe_zero]; exact EReal.coe_lt_coe_iff.2 (by norm_num))]
  simp only [← coe_sum, div_real (show (256 : ℝ) ≠ 0 by norm_num), ← EReal.coe_sub, ← EReal.coe_mul]
  rfl

/-- The variance and its guard are positive. -/
theorem vrncR_pos (A : Args) (b : Fin 2) (l : Fin 2048) : 0 < vrncR A b l + lit 0x3727C5AC#32 := by
  have h1 : 0 < lit 0x3727C5AC#32 := by rw [lit_ln_eps]; norm_num
  have h2 : 0 ≤ ∑ d, (combR A b l d - meanR A b l) * (combR A b l d - meanR A b l) :=
    Finset.sum_nonneg fun d _ => mul_self_nonneg _
  unfold vrncR
  positivity

theorem v692_at (hG : Good X.args) (b : Fin 2) (l : Fin 2048) (d : Fin 256) :
    val_main_v692 (F := Ideal) X.x0 X.x1 X.x2 X.x3 X.x4 X.x5 X.x6 X.x7 X.x8 X.x9 X.x10 X.x11 X.x12 X.x13 X.x14 X.x15 X.x16 X.x17 X.x18 X.x19 X.x20 X.x21 (ix3 b l d) = ((nrmR X.args b l d : ℝ) : EReal) := by
  pointwise [val_main_v686, val_main_v687, val_main_cst_127, val_main_v688, val_main_v689, val_main_v690, val_main_v691,
    val_main_v692]
  rw [v680_at X hG, v684_at X hG, v685_at X hG, ofBits_lit _ (by decide)]
  have h := vrncR_pos X.args b l
  rw [← EReal.coe_add, ← EReal.coe_sub, Ideal.sqrt_coe, if_neg (not_lt.2 h.le), div_real (Real.sqrt_pos.2 h).ne']
  rfl

/-- What the reference computes. -/
theorem v704_at (hG : Good X.args) (b : Fin 2) (l : Fin 2048) (d : Fin 256) :
    val_main_v704 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 (ix3 b l d) = outE X.args b l d := by
  pointwise [val_main_v693, val_main_v694, val_main_v695, val_main_v696, val_main_v697, val_main_v698, val_main_v699, val_main_v700,
    val_main_v701, val_main_v702, val_main_v703, val_main_v704]
  simp only [v692_at X hG]
  rfl

end Cert.Phasor

end
-- ==== Proof.lean ====
module

public import proofs.«01_k».proof.Defs
public import proofs.«01_k».proof.Proof.Gen.Own.Kernel.Frame
public import proofs.«01_k».proof.Proof.Gen.Own.KernelIdeal.Value
public import proofs.«01_k».proof.Proof.Gen.ReferenceIdeal.Run
public import proofs.«01_k».proof.Proof.Gen.ReferenceIdeal.Read
public import proofs.«01_k».proof.Proof.Final
public import proofs.«01_k».proof.Proof.Pre
public import proofs.«01_k».proof.Proof.RefB
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its counters zero, whatever its arguments. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three named constants stand for the values the kernel's idealization gives them. -/
theorem preserves_Kernel_KernelIdeal : preserves_Kernel_KernelIdeal :=
  ⟨IdealRules.named_const.statement Cert.KernelIdeal.κ "inv_two_pi" .f32 0x3E22F983#32 _ rfl,
    IdealRules.named_const.statement Cert.KernelIdeal.κ "head_scale" .f32 0x3D3504F3#32 _ rfl,
    IdealRules.named_const.statement Cert.KernelIdeal.κ "inv_sqrt_p" .f32 0x3E3504F3#32 _ rfl⟩

/-- The two programs' result: what the reference computes from the arguments, at every index. -/
theorem result_eq (X : Cert.Phasor.Arrs) (hG : Cert.Phasor.Good X.args) :
    Cert.ReferenceIdeal.Read.val_main_v704 (F := Ideal) X.x0 X.x1 X.x2 X.x3 X.x4 X.x5 X.x6 X.x7 X.x8 X.x9 X.x10 X.x11 X.x12 X.x13 X.x14
      X.x15 X.x16 X.x17 X.x18 X.x19 X.x20 X.x21 X.x22 X.x23 X.x24 X.x25 = fun j => Cert.Phasor.outE X.args (j 0) (j 1) (j 2) := by
  funext j
  refine Eq.trans (congrArg _ ?_) (Cert.Phasor.v704_at X hG (j 0) (j 1) (j 2))
  funext a
  fin_cases a <;> rfl

/-- With finite rows, phases and weights the kernel's result is the reference's. -/
theorem algebraic : algebraic_KernelIdeal_ReferenceIdeal_pre_finite (hPre_finite := Cert.Phasor.preFacts) := by
  intro m ρ m' ρ' hpre hagree
  refine ⟨_, Cert.KernelIdeal.Value.run (F := Ideal) m ρ, ?_⟩
  refine (θ_run Cert.ReferenceIdeal.defs _ _).mono (fun r h c => ⟨?_, (h c).2⟩) (Cert.ReferenceIdeal.Value.run (F := Ideal) m' ρ')
  have hG : Cert.Phasor.Good (Cert.Phasor.arrs m c).args :=
    @Cert.Phasor.good_of_pre (Cert.Phasor.arrs m c) Cert.Phasor.preFacts (hpre c)
  refine ((h c).1.trans (Cert.ReferenceIdeal.Read.val_main_v704_eq (F := Ideal) _)).trans (Eq.trans ?_
    ((result_eq _ hG).trans ((Cert.Phasor.final m c hG).symm.trans (Cert.KernelIdeal.Value.final27 m c))))
  obtain ⟨a0, a1, a2, a3, a4, a5, a6, a7, a8, a9, a10, a11, a12, a13, a14, a15, a16, a17, a18, a19, a20, a21, a22, a23, a24, a25⟩ := hagree c
  congr 1

/-- Every claim of this certificate. -/
theorem claim : Cert.Claim :=
  ⟨Cert.Kernel.Gen.facts, Cert.KernelIdeal.Gen.facts, Cert.ReferenceIdeal.Gen.facts, Cert.Phasor.preFacts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial, preserves_Kernel_KernelIdeal, algebraic⟩

end Cert.Proof

end
